-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores [hPre_finite_scores : Cert.Pre_finite_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores [hPre_finite_scores : Cert.Pre_finite_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite_scores [hKernel5Ideal : Cert.Kernel5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite_scores [hReference5Ideal : Cert.Reference5Ideal.Facts] [hPre_finite_scores : Cert.Pre_finite_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_scores [hKernel5Ideal : Cert.Kernel5Ideal.Facts] [hReference5Ideal : Cert.Reference5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_range : Cert.Pre_in_range.Facts) (hPre_finite_scores : Cert.Pre_finite_scores.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scores (hKernel5Ideal := hKernel5Ideal) (hPre_finite_scores := hPre_finite_scores)
    ∧ quiescent_Reference5Ideal (hReference5Ideal := hReference5Ideal)
    ∧ quiescent_Reference5Ideal_pre_finite_scores (hReference5Ideal := hReference5Ideal) (hPre_finite_scores := hPre_finite_scores)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores (hKernel5Ideal := hKernel5Ideal) (hReference5Ideal := hReference5Ideal) (hPre_finite_scores := hPre_finite_scores)
    ∧ preserves_Kernel6_Kernel6Ideal
    ∧ algebraic_Kernel6Ideal_Reference6Ideal (hKernel6Ideal := hKernel6Ideal) (hReference6Ideal := hReference6Ideal)
-- ==== Pre_finite_scores.lean ====
abbrev S65536x1024 : Shape := ⟨2, ![65536, 1024]⟩
abbrev S1024x8 : Shape := ⟨2, ![1024, 8]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S65536x1024 .f32) (main_arg1 : FVec F S1024x8 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_in_range.lean ====
abbrev S135168x1024 : Shape := ⟨2, ![135168, 1024]⟩
abbrev S8x1024x3584 : Shape := ⟨3, ![8, 1024, 3584]⟩
abbrev S8x3584x1024 : Shape := ⟨3, ![8, 3584, 1024]⟩
abbrev S264 : Shape := ⟨1, ![264]⟩
abbrev S1 : Shape := ⟨1, ![1]⟩
abbrev S_ : Shape := ⟨0, ![]⟩

class Facts : Prop where
  bcast_S_S264 : S_.BroadcastsInDim S264 (![] : Fin 0 → Fin S264.rank)
  reducesTo_S264_S_d0 : S264.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S135168x1024 .f32) (main_arg1 : FVec F S8x1024x3584 .f32) (main_arg2 : FVec F S8x1024x3584 .f32) (main_arg3 : FVec F S8x3584x1024 .f32) (main_arg4 : IVec S264 32) (main_arg5 : IVec S1 32) : IVec S_ 1 :=
  let main_c : IVec S_ 32 := constantI S_ 32 0#32
  let main_v0 : IVec S264 32 := broadcastInDim S264 ![] bcast_S_S264 main_c
  let main_v1 : IVec S264 1 := cmpi .sge main_arg4 main_v0
  let main_c_0 : IVec S_ 32 := constantI S_ 32 8#32
  let main_v2 : IVec S264 32 := broadcastInDim S264 ![] bcast_S_S264 main_c_0
  let main_v3 : IVec S264 1 := cmpi .slt main_arg4 main_v2
  let main_v4 : IVec S264 1 := andi main_v1 main_v3
  let main_c_1 : IVec S_ 1 := constantI S_ 1 1#1
  let main_v5 : IVec S_ 1 := (fun x v => Host.reduce IntOp.andi x v reducesTo_S264_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg5 main_v6
  let main_c_3 : IVec S_ 32 := constantI S_ 32 264#32
  let main_v8 : IVec S1 32 := broadcastInDim S1 ![] bcast_S_S1 main_c_3
  let main_v9 : IVec S1 1 := cmpi .sle main_arg5 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S135168x1024 : Shape := ⟨2, ![135168, 1024]⟩
abbrev S8x1024x3584 : Shape := ⟨3, ![8, 1024, 3584]⟩
abbrev S8x3584x1024 : Shape := ⟨3, ![8, 3584, 1024]⟩
abbrev S264 : Shape := ⟨1, ![264]⟩
abbrev S1 : Shape := ⟨1, ![1]⟩
abbrev S_ : Shape := ⟨0, ![]⟩
abbrev S264x1 : Shape := ⟨2, ![264, 1]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 23
  | .vmem => 10
  | .smem => 2
  | _ => 0

abbrev bufTy : (tb : Table) → Fin (tcTables nBuf tb) → BufTy
  | .hbm, ⟨0, _⟩ => ⟨S135168x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S264, .i32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S264, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S264, .i32⟩
  | .hbm, ⟨13, _⟩ => ⟨S264, .i32⟩
  | .hbm, ⟨14, _⟩ => ⟨S_, .i32⟩
  | .hbm, ⟨15, _⟩ => ⟨S264, .i32⟩
  | .hbm, ⟨16, _⟩ => ⟨S264, .i1⟩
  | .hbm, ⟨17, _⟩ => ⟨S_, .i32⟩
  | .hbm, ⟨18, _⟩ => ⟨S264, .i32⟩
  | .hbm, ⟨19, _⟩ => ⟨S264, .i32⟩
  | .hbm, ⟨20, _⟩ => ⟨S264, .i32⟩
  | .hbm, ⟨21, _⟩ => ⟨S264x1, .i32⟩
  | .hbm, ⟨22, _⟩ => ⟨S135168x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .smem, ⟨0, _⟩ => ⟨S264, .i32⟩
  | .local _ .smem, ⟨1, _⟩ => ⟨S1, .i32⟩
  | _, _ => ⟨S135168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v15 : Ref sig .tc := ⟨.hbm, 22, rfl⟩
abbrev main_v14 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![264, 2], ![false, false]⟩

abbrev pre0 : Pipeline.Prefetch sig := ⟨2, ![main_v14.idx, main_arg5.idx], fun | 0 => main_v14.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_18 : BitVec 32 := 0#32
  let v29 : BitVec 1 := Scalar.cmpi .eq arg1 c0_i32_18
  let v30 : BitVec 32 := Scalar.extui v29
  let c0_i32_19 : BitVec 32 := 0#32
  let v31 : BitVec 1 := Scalar.cmpi .ne v30 c0_i32_19
  v31

def k0_cond3 (i : grid0.Coords) : BitVec 1 :=
  let arg1 : BitVec 32 := BitVec.ofNat 32 (i 1).val
  let c0_i32_20 : BitVec 32 := 0#32
  let v32 : BitVec 1 := Scalar.cmpi .sgt arg1 c0_i32_20
  let v33 : BitVec 32 := Scalar.extui v32
  let c0_i32_21 : BitVec 32 := 0#32
  let v34 : BitVec 1 := Scalar.cmpi .ne v33 c0_i32_21
  v34

def k0_cond4 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S264.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S135168x1024 : Shape := ⟨2, ![135168, 1024]⟩
abbrev S8x1024x3584 : Shape := ⟨3, ![8, 1024, 3584]⟩
abbrev S8x3584x1024 : Shape := ⟨3, ![8, 3584, 1024]⟩
abbrev S264 : Shape := ⟨1, ![264]⟩
abbrev S1 : Shape := ⟨1, ![1]⟩
abbrev S264x512 : Shape := ⟨2, ![264, 512]⟩
abbrev S135168 : Shape := ⟨1, ![135168]⟩
abbrev S_ : Shape := ⟨0, ![]⟩
abbrev S135168x1 : Shape := ⟨2, ![135168, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S135168x3584 : Shape := ⟨2, ![135168, 3584]⟩

abbrev nBuf : Space → Nat
  | .hbm => 240
  | .vmem => 0
  | .smem => 0
  | _ => 0

abbrev hbmTy0_0 (i : Nat) : BufTy := match i % 128 with
  | 0 => ⟨S135168x1024, .f32⟩
  | 1 => ⟨S8x1024x3584, .f32⟩
  | 2 => ⟨S8x1024x3584, .f32⟩
  | 3 => ⟨S8x3584x1024, .f32⟩
  | 4 => ⟨S264, .i32⟩
  | 5 => ⟨S1, .i32⟩
  | 6 => ⟨S264x512, .i32⟩
  | 7 => ⟨S135168, .i32⟩
  | 8 => ⟨S135168, .i32⟩
  | 9 => ⟨S_, .i32⟩
  | 10 => ⟨S_, .i32⟩
  | 11 => ⟨S_, .i32⟩
  | 12 => ⟨S135168, .i32⟩
  | 13 => ⟨S135168, .i1⟩
  | 14 => ⟨S_, .f32⟩
  | 15 => ⟨S135168x1024, .f32⟩
  | 16 => ⟨S_, .i32⟩
  | 17 => ⟨S135168, .i32⟩
  | 18 => ⟨S135168, .i1⟩
  | 19 => ⟨S135168, .i1⟩
  | 20 => ⟨S135168x1, .i1⟩
  | 21 => ⟨S135168x1, .f32⟩
  | 22 => ⟨S1x1024x3584, .f32⟩
  | 23 => ⟨S1024x3584, .f32⟩
  | 24 => ⟨S1x1024x3584, .f32⟩
  | 25 => ⟨S1024x3584, .f32⟩
  | 26 => ⟨S1x3584x1024, .f32⟩
  | 27 => ⟨S3584x1024, .f32⟩
  | 28 => ⟨S135168x3584, .f32⟩
  | 29 => ⟨S135168x3584, .f32⟩
  | 30 => ⟨S135168x3584, .f32⟩
  | 31 => ⟨S_, .f32⟩
  | 32 => ⟨S135168x3584, .f32⟩
  | 33 => ⟨S135168x3584, .f32⟩
  | 34 => ⟨S_, .f32⟩
  | 35 => ⟨S135168x3584, .f32⟩
  | 36 => ⟨S135168x3584, .f32⟩
  | 37 => ⟨S135168x3584, .f32⟩
  | 38 => ⟨S135168x3584, .f32⟩
  | 39 => ⟨S135168x3584, .f32⟩
  | 40 => ⟨S135168x1024, .f32⟩
  | 41 => ⟨S135168x1024, .f32⟩
  | 42 => ⟨S135168x1024, .f32⟩
  | 43 => ⟨S135168x1024, .f32⟩
  | 44 => ⟨S_, .i32⟩
  | 45 => ⟨S135168, .i32⟩
  | 46 => ⟨S135168, .i1⟩
  | 47 => ⟨S135168, .i1⟩
  | 48 => ⟨S135168x1, .i1⟩
  | 49 => ⟨S135168x1, .f32⟩
  | 50 => ⟨S1x1024x3584, .f32⟩
  | 51 => ⟨S1024x3584, .f32⟩
  | 52 => ⟨S1x1024x3584, .f32⟩
  | 53 => ⟨S1024x3584, .f32⟩
  | 54 => ⟨S1x3584x1024, .f32⟩
  | 55 => ⟨S3584x1024, .f32⟩
  | 56 => ⟨S135168x3584, .f32⟩
  | 57 => ⟨S135168x3584, .f32⟩
  | 58 => ⟨S135168x3584, .f32⟩
  | 59 => ⟨S_, .f32⟩
  | 60 => ⟨S135168x3584, .f32⟩
  | 61 => ⟨S135168x3584, .f32⟩
  | 62 => ⟨S_, .f32⟩
  | 63 => ⟨S135168x3584, .f32⟩
  | 64 => ⟨S135168x3584, .f32⟩
  | 65 => ⟨S135168x3584, .f32⟩
  | 66 => ⟨S135168x3584, .f32⟩
  | 67 => ⟨S135168x3584, .f32⟩
  | 68 => ⟨S135168x1024, .f32⟩
  | 69 => ⟨S135168x1024, .f32⟩
  | 70 => ⟨S135168x1024, .f32⟩
  | 71 => ⟨S135168x1024, .f32⟩
  | 72 => ⟨S_, .i32⟩
  | 73 => ⟨S135168, .i32⟩
  | 74 => ⟨S135168, .i1⟩
  | 75 => ⟨S135168, .i1⟩
  | 76 => ⟨S135168x1, .i1⟩
  | 77 => ⟨S135168x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S135168x3584, .f32⟩
  | 85 => ⟨S135168x3584, .f32⟩
  | 86 => ⟨S135168x3584, .f32⟩
  | 87 => ⟨S_, .f32⟩
  | 88 => ⟨S135168x3584, .f32⟩
  | 89 => ⟨S135168x3584, .f32⟩
  | 90 => ⟨S_, .f32⟩
  | 91 => ⟨S135168x3584, .f32⟩
  | 92 => ⟨S135168x3584, .f32⟩
  | 93 => ⟨S135168x3584, .f32⟩
  | 94 => ⟨S135168x3584, .f32⟩
  | 95 => ⟨S135168x3584, .f32⟩
  | 96 => ⟨S135168x1024, .f32⟩
  | 97 => ⟨S135168x1024, .f32⟩
  | 98 => ⟨S135168x1024, .f32⟩
  | 99 => ⟨S135168x1024, .f32⟩
  | 100 => ⟨S_, .i32⟩
  | 101 => ⟨S135168, .i32⟩
  | 102 => ⟨S135168, .i1⟩
  | 103 => ⟨S135168, .i1⟩
  | 104 => ⟨S135168x1, .i1⟩
  | 105 => ⟨S135168x1, .f32⟩
  | 106 => ⟨S1x1024x3584, .f32⟩
  | 107 => ⟨S1024x3584, .f32⟩
  | 108 => ⟨S1x1024x3584, .f32⟩
  | 109 => ⟨S1024x3584, .f32⟩
  | 110 => ⟨S1x3584x1024, .f32⟩
  | 111 => ⟨S3584x1024, .f32⟩
  | 112 => ⟨S135168x3584, .f32⟩
  | 113 => ⟨S135168x3584, .f32⟩
  | 114 => ⟨S135168x3584, .f32⟩
  | 115 => ⟨S_, .f32⟩
  | 116 => ⟨S135168x3584, .f32⟩
  | 117 => ⟨S135168x3584, .f32⟩
  | 118 => ⟨S_, .f32⟩
  | 119 => ⟨S135168x3584, .f32⟩
  | 120 => ⟨S135168x3584, .f32⟩
  | 121 => ⟨S135168x3584, .f32⟩
  | 122 => ⟨S135168x3584, .f32⟩
  | 123 => ⟨S135168x3584, .f32⟩
  | 124 => ⟨S135168x1024, .f32⟩
  | 125 => ⟨S135168x1024, .f32⟩
  | 126 => ⟨S135168x1024, .f32⟩
  | 127 => ⟨S135168x1024, .f32⟩
  | _ => ⟨S135168x1024, .f32⟩

abbrev hbmTy0_1 (i : Nat) : BufTy := match i % 128 with
  | 0 => ⟨S_, .i32⟩
  | 1 => ⟨S135168, .i32⟩
  | 2 => ⟨S135168, .i1⟩
  | 3 => ⟨S135168, .i1⟩
  | 4 => ⟨S135168x1, .i1⟩
  | 5 => ⟨S135168x1, .f32⟩
  | 6 => ⟨S1x1024x3584, .f32⟩
  | 7 => ⟨S1024x3584, .f32⟩
  | 8 => ⟨S1x1024x3584, .f32⟩
  | 9 => ⟨S1024x3584, .f32⟩
  | 10 => ⟨S1x3584x1024, .f32⟩
  | 11 => ⟨S3584x1024, .f32⟩
  | 12 => ⟨S135168x3584, .f32⟩
  | 13 => ⟨S135168x3584, .f32⟩
  | 14 => ⟨S135168x3584, .f32⟩
  | 15 => ⟨S_, .f32⟩
  | 16 => ⟨S135168x3584, .f32⟩
  | 17 => ⟨S135168x3584, .f32⟩
  | 18 => ⟨S_, .f32⟩
  | 19 => ⟨S135168x3584, .f32⟩
  | 20 => ⟨S135168x3584, .f32⟩
  | 21 => ⟨S135168x3584, .f32⟩
  | 22 => ⟨S135168x3584, .f32⟩
  | 23 => ⟨S135168x3584, .f32⟩
  | 24 => ⟨S135168x1024, .f32⟩
  | 25 => ⟨S135168x1024, .f32⟩
  | 26 => ⟨S135168x1024, .f32⟩
  | 27 => ⟨S135168x1024, .f32⟩
  | 28 => ⟨S_, .i32⟩
  | 29 => ⟨S135168, .i32⟩
  | 30 => ⟨S135168, .i1⟩
  | 31 => ⟨S135168, .i1⟩
  | 32 => ⟨S135168x1, .i1⟩
  | 33 => ⟨S135168x1, .f32⟩
  | 34 => ⟨S1x1024x3584, .f32⟩
  | 35 => ⟨S1024x3584, .f32⟩
  | 36 => ⟨S1x1024x3584, .f32⟩
  | 37 => ⟨S1024x3584, .f32⟩
  | 38 => ⟨S1x3584x1024, .f32⟩
  | 39 => ⟨S3584x1024, .f32⟩
  | 40 => ⟨S135168x3584, .f32⟩
  | 41 => ⟨S135168x3584, .f32⟩
  | 42 => ⟨S135168x3584, .f32⟩
  | 43 => ⟨S_, .f32⟩
  | 44 => ⟨S135168x3584, .f32⟩
  | 45 => ⟨S135168x3584, .f32⟩
  | 46 => ⟨S_, .f32⟩
  | 47 => ⟨S135168x3584, .f32⟩
  | 48 => ⟨S135168x3584, .f32⟩
  | 49 => ⟨S135168x3584, .f32⟩
  | 50 => ⟨S135168x3584, .f32⟩
  | 51 => ⟨S135168x3584, .f32⟩
  | 52 => ⟨S135168x1024, .f32⟩
  | 53 => ⟨S135168x1024, .f32⟩
  | 54 => ⟨S135168x1024, .f32⟩
  | 55 => ⟨S135168x1024, .f32⟩
  | 56 => ⟨S_, .i32⟩
  | 57 => ⟨S135168, .i32⟩
  | 58 => ⟨S135168, .i1⟩
  | 59 => ⟨S135168, .i1⟩
  | 60 => ⟨S135168x1, .i1⟩
  | 61 => ⟨S135168x1, .f32⟩
  | 62 => ⟨S1x1024x3584, .f32⟩
  | 63 => ⟨S1024x3584, .f32⟩
  | 64 => ⟨S1x1024x3584, .f32⟩
  | 65 => ⟨S1024x3584, .f32⟩
  | 66 => ⟨S1x3584x1024, .f32⟩
  | 67 => ⟨S3584x1024, .f32⟩
  | 68 => ⟨S135168x3584, .f32⟩
  | 69 => ⟨S135168x3584, .f32⟩
  | 70 => ⟨S135168x3584, .f32⟩
  | 71 => ⟨S_, .f32⟩
  | 72 => ⟨S135168x3584, .f32⟩
  | 73 => ⟨S135168x3584, .f32⟩
  | 74 => ⟨S_, .f32⟩
  | 75 => ⟨S135168x3584, .f32⟩
  | 76 => ⟨S135168x3584, .f32⟩
  | 77 => ⟨S135168x3584, .f32⟩
  | 78 => ⟨S135168x3584, .f32⟩
  | 79 => ⟨S135168x3584, .f32⟩
  | 80 => ⟨S135168x1024, .f32⟩
  | 81 => ⟨S135168x1024, .f32⟩
  | 82 => ⟨S135168x1024, .f32⟩
  | 83 => ⟨S135168x1024, .f32⟩
  | 84 => ⟨S_, .i32⟩
  | 85 => ⟨S135168, .i32⟩
  | 86 => ⟨S135168, .i1⟩
  | 87 => ⟨S135168, .i1⟩
  | 88 => ⟨S135168x1, .i1⟩
  | 89 => ⟨S135168x1, .f32⟩
  | 90 => ⟨S1x1024x3584, .f32⟩
  | 91 => ⟨S1024x3584, .f32⟩
  | 92 => ⟨S1x1024x3584, .f32⟩
  | 93 => ⟨S1024x3584, .f32⟩
  | 94 => ⟨S1x3584x1024, .f32⟩
  | 95 => ⟨S3584x1024, .f32⟩
  | 96 => ⟨S135168x3584, .f32⟩
  | 97 => ⟨S135168x3584, .f32⟩
  | 98 => ⟨S135168x3584, .f32⟩
  | 99 => ⟨S_, .f32⟩
  | 100 => ⟨S135168x3584, .f32⟩
  | 101 => ⟨S135168x3584, .f32⟩
  | 102 => ⟨S_, .f32⟩
  | 103 => ⟨S135168x3584, .f32⟩
  | 104 => ⟨S135168x3584, .f32⟩
  | 105 => ⟨S135168x3584, .f32⟩
  | 106 => ⟨S135168x3584, .f32⟩
  | 107 => ⟨S135168x3584, .f32⟩
  | 108 => ⟨S135168x1024, .f32⟩
  | 109 => ⟨S135168x1024, .f32⟩
  | 110 => ⟨S135168x1024, .f32⟩
  | 111 => ⟨S135168x1024, .f32⟩
  | _ => ⟨S135168x1024, .f32⟩

abbrev hbmTy (i : Nat) : BufTy := match i / 128 with
  | 0 => hbmTy0_0 i
  | 1 => hbmTy0_1 i
  | _ => ⟨S135168x1024, .f32⟩

abbrev bufTy : (tb : Table) → Fin (tcTables nBuf tb) → BufTy
  | .hbm, ⟨i, _⟩ => hbmTy i
  | _, _ => ⟨S135168x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_2 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_3 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_4 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_call4_v0 : Ref sig .tc := ⟨.hbm, 141, rfl⟩
abbrev main_call4_v1 : Ref sig .tc := ⟨.hbm, 142, rfl⟩
abbrev main_call4_cst : Ref sig .tc := ⟨.hbm, 143, rfl⟩
abbrev main_call4_v2 : Ref sig .tc := ⟨.hbm, 144, rfl⟩
abbrev main_call4_v3 : Ref sig .tc := ⟨.hbm, 145, rfl⟩
abbrev main_call4_cst_0 : Ref sig .tc := ⟨.hbm, 146, rfl⟩
abbrev main_call4_v4 : Ref sig .tc := ⟨.hbm, 147, rfl⟩
abbrev main_call4_v5 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_c_5 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_call5_v0 : Ref sig .tc := ⟨.hbm, 169, rfl⟩
abbrev main_call5_v1 : Ref sig .tc := ⟨.hbm, 170, rfl⟩
abbrev main_call5_cst : Ref sig .tc := ⟨.hbm, 171, rfl⟩
abbrev main_call5_v2 : Ref sig .tc := ⟨.hbm, 172, rfl⟩
abbrev main_call5_v3 : Ref sig .tc := ⟨.hbm, 173, rfl⟩
abbrev main_call5_cst_0 : Ref sig .tc := ⟨.hbm, 174, rfl⟩
abbrev main_call5_v4 : Ref sig .tc := ⟨.hbm, 175, rfl⟩
abbrev main_call5_v5 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_c_6 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_call6_v0 : Ref sig .tc := ⟨.hbm, 197, rfl⟩
abbrev main_call6_v1 : Ref sig .tc := ⟨.hbm, 198, rfl⟩
abbrev main_call6_cst : Ref sig .tc := ⟨.hbm, 199, rfl⟩
abbrev main_call6_v2 : Ref sig .tc := ⟨.hbm, 200, rfl⟩
abbrev main_call6_v3 : Ref sig .tc := ⟨.hbm, 201, rfl⟩
abbrev main_call6_cst_0 : Ref sig .tc := ⟨.hbm, 202, rfl⟩
abbrev main_call6_v4 : Ref sig .tc := ⟨.hbm, 203, rfl⟩
abbrev main_call6_v5 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_c_7 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_call7_v0 : Ref sig .tc := ⟨.hbm, 225, rfl⟩
abbrev main_call7_v1 : Ref sig .tc := ⟨.hbm, 226, rfl⟩
abbrev main_call7_cst : Ref sig .tc := ⟨.hbm, 227, rfl⟩
abbrev main_call7_v2 : Ref sig .tc := ⟨.hbm, 228, rfl⟩
abbrev main_call7_v3 : Ref sig .tc := ⟨.hbm, 229, rfl⟩
abbrev main_call7_cst_0 : Ref sig .tc := ⟨.hbm, 230, rfl⟩
abbrev main_call7_v4 : Ref sig .tc := ⟨.hbm, 231, rfl⟩
abbrev main_call7_v5 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩

abbrev nD : Nat := 1
abbrev τ : Topo := Topo.v7x

variable {F : FTy → Type} [FloatOps F]
-- ==== Kernel2.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S65536x2816 : Shape := ⟨2, ![65536, 2816]⟩
abbrev S65536 : Shape := ⟨1, ![65536]⟩
abbrev S65536x1 : Shape := ⟨2, ![65536, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S65536x1024, .f32⟩
  | .hbm, ⟨8, _⟩ => ⟨S65536x1024, .f32⟩
  | .hbm, ⟨9, _⟩ => ⟨S65536x2816, .f32⟩
  | .hbm, ⟨10, _⟩ => ⟨S65536x2816, .f32⟩
  | .hbm, ⟨11, _⟩ => ⟨S65536x2816, .f32⟩
  | .hbm, ⟨12, _⟩ => ⟨S_, .f32⟩
  | .hbm, ⟨13, _⟩ => ⟨S65536x2816, .f32⟩
  | .hbm, ⟨14, _⟩ => ⟨S65536x2816, .f32⟩
  | .hbm, ⟨15, _⟩ => ⟨S_, .f32⟩
  | .hbm, ⟨16, _⟩ => ⟨S65536x2816, .f32⟩
  | .hbm, ⟨17, _⟩ => ⟨S65536x2816, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1, .f32⟩
  | .hbm, ⟨42, _⟩ => ⟨S65536x1024, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | .hbm, ⟨47, _⟩ => ⟨S1x1024, .f32⟩
  | .hbm, ⟨48, _⟩ => ⟨S65536x1024, .f32⟩
  | .hbm, ⟨49, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel3.lean ====
abbrev S65536x1024 : Shape := ⟨2, ![65536, 1024]⟩
abbrev S1024x2304 : Shape := ⟨2, ![1024, 2304]⟩
abbrev S65536x2304 : Shape := ⟨2, ![65536, 2304]⟩
abbrev S512x1024 : Shape := ⟨2, ![512, 1024]⟩
abbrev S512x2304 : Shape := ⟨2, ![512, 2304]⟩
abbrev S1024x768 : Shape := ⟨2, ![1024, 768]⟩
abbrev S512x768 : Shape := ⟨2, ![512, 768]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x2304, .f32⟩
  | .hbm, ⟨2, _⟩ => ⟨S1024x2304, .bf16⟩
  | .hbm, ⟨3, _⟩ => ⟨S65536x2304, .f32⟩
  | .local _ .vmem, ⟨0, _⟩ => ⟨S512x1024, .f32⟩
  | .local _ .vmem, ⟨1, _⟩ => ⟨S512x1024, .f32⟩
  | .local _ .vmem, ⟨2, _⟩ => ⟨S1024x2304, .bf16⟩
  | .local _ .vmem, ⟨3, _⟩ => ⟨S512x2304, .f32⟩
  | .local _ .vmem, ⟨4, _⟩ => ⟨S512x2304, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S65536x1024 : Shape := ⟨2, ![65536, 1024]⟩
abbrev S1024x2304 : Shape := ⟨2, ![1024, 2304]⟩
abbrev S65536x2304 : Shape := ⟨2, ![65536, 2304]⟩

abbrev nBuf : Space → Nat
  | .hbm => 3
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2304, .f32⟩
  | .hbm, ⟨2, _⟩ => ⟨S65536x2304, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S65536x256 : Shape := ⟨2, ![65536, 256]⟩
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S512x256 : Shape := ⟨2, ![512, 256]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S65536x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S65536x256, .bf16⟩
  | .hbm, ⟨9, _⟩ => ⟨S65536x256, .bf16⟩
  | .hbm, ⟨10, _⟩ => ⟨S65536x256, .bf16⟩
  | .hbm, ⟨11, _⟩ => ⟨S65536x256, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S65536x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S65536x256 : Shape := ⟨2, ![65536, 256]⟩
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S65536x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x1, .f32⟩
  | .hbm, ⟨33, _⟩ => ⟨S65536x1024, .f32⟩
  | .hbm, ⟨34, _⟩ => ⟨S65536x1024, .f32⟩
  | .hbm, ⟨35, _⟩ => ⟨S1x1024, .f32⟩
  | .hbm, ⟨36, _⟩ => ⟨S65536x1024, .f32⟩
  | .hbm, ⟨37, _⟩ => ⟨S65536x1024, .f32⟩
  | .hbm, ⟨38, _⟩ => ⟨S1x1024, .f32⟩
  | .hbm, ⟨39, _⟩ => ⟨S65536x1024, .f32⟩
  | .hbm, ⟨40, _⟩ => ⟨S65536x1024, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel5.lean ====
abbrev S65536x1024 : Shape := ⟨2, ![65536, 1024]⟩
abbrev S1024x8 : Shape := ⟨2, ![1024, 8]⟩
abbrev S_ : Shape := ⟨0, ![]⟩
abbrev S1024x128 : Shape := ⟨2, ![1024, 128]⟩
abbrev S1 : Shape := ⟨1, ![1]⟩
abbrev S65536x128 : Shape := ⟨2, ![65536, 128]⟩
abbrev S8x128 : Shape := ⟨2, ![8, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x128 : Shape := ⟨2, ![1, 128]⟩
abbrev S128 : Shape := ⟨1, ![128]⟩

abbrev nBuf : Space → Nat
  | .hbm => 10
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x8, .f32⟩
  | .hbm, ⟨2, _⟩ => ⟨S_, .f32⟩
  | .hbm, ⟨3, _⟩ => ⟨S1024x128, .f32⟩
  | .hbm, ⟨4, _⟩ => ⟨S_, .i32⟩
  | .hbm, ⟨5, _⟩ => ⟨S1, .i32⟩
  | .hbm, ⟨6, _⟩ => ⟨S1024x128, .f32⟩
  | .hbm, ⟨7, _⟩ => ⟨S65536x128, .i32⟩
  | .hbm, ⟨8, _⟩ => ⟨S65536x128, .f32⟩
  | .hbm, ⟨9, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S512x128, .i32⟩
  | .local _ .vmem, ⟨4, _⟩ => ⟨S512x128, .i32⟩
  | .local _ .vmem, ⟨5, _⟩ => ⟨S512x128, .f32⟩
  | .local _ .vmem, ⟨6, _⟩ => ⟨S512x128, .f32⟩
  | .local _ .vmem, ⟨7, _⟩ => ⟨S8x128, .f32⟩
  | .local _ .vmem, ⟨8, _⟩ => ⟨S8x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference5Ideal.lean ====
abbrev S65536x1024 : Shape := ⟨2, ![65536, 1024]⟩
abbrev S1024x8 : Shape := ⟨2, ![1024, 8]⟩
abbrev S65536x8 : Shape := ⟨2, ![65536, 8]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S65536x2x1 : Shape := ⟨3, ![65536, 2, 1]⟩
abbrev S1x1x8 : Shape := ⟨3, ![1, 1, 8]⟩
abbrev S65536x2x8 : Shape := ⟨3, ![65536, 2, 8]⟩
abbrev S65536x1x8 : Shape := ⟨3, ![65536, 1, 8]⟩
abbrev S8 : Shape := ⟨1, ![8]⟩
abbrev S1x8 : Shape := ⟨2, ![1, 8]⟩
abbrev S1x128 : Shape := ⟨2, ![1, 128]⟩
abbrev S8x128 : Shape := ⟨2, ![8, 128]⟩
abbrev S65536x4 : Shape := ⟨2, ![65536, 4]⟩
abbrev S65536x128 : Shape := ⟨2, ![65536, 128]⟩

abbrev nBuf : Space → Nat
  | .hbm => 51
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x8, .f32⟩
  | .hbm, ⟨2, _⟩ => ⟨S65536x8, .f32⟩
  | .hbm, ⟨3, _⟩ => ⟨S65536x2, .f32⟩
  | .hbm, ⟨4, _⟩ => ⟨S65536x2, .i32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S65536x1, .f32⟩
  | .hbm, ⟨11, _⟩ => ⟨S65536x2, .f32⟩
  | .hbm, ⟨12, _⟩ => ⟨S65536x2, .f32⟩
  | .hbm, ⟨13, _⟩ => ⟨S65536x2, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x2, .f32⟩
  | .hbm, ⟨18, _⟩ => ⟨S65536x2, .f32⟩
  | .hbm, ⟨19, _⟩ => ⟨S65536x2x1, .i32⟩
  | .hbm, ⟨20, _⟩ => ⟨S1x1x8, .i32⟩
  | .hbm, ⟨21, _⟩ => ⟨S65536x2x8, .i32⟩
  | .hbm, ⟨22, _⟩ => ⟨S65536x2x8, .i32⟩
  | .hbm, ⟨23, _⟩ => ⟨S65536x2x8, .i1⟩
  | .hbm, ⟨24, _⟩ => ⟨S65536x2x8, .i32⟩
  | .hbm, ⟨25, _⟩ => ⟨S_, .i32⟩
  | .hbm, ⟨26, _⟩ => ⟨S65536x8, .i32⟩
  | .hbm, ⟨27, _⟩ => ⟨S_, .i32⟩
  | .hbm, ⟨28, _⟩ => ⟨S_, .i32⟩
  | .hbm, ⟨29, _⟩ => ⟨S65536x8, .i32⟩
  | .hbm, ⟨30, _⟩ => ⟨S65536x8, .i32⟩
  | .hbm, ⟨31, _⟩ => ⟨S65536x1x8, .i32⟩
  | .hbm, ⟨32, _⟩ => ⟨S65536x2x8, .i32⟩
  | .hbm, ⟨33, _⟩ => ⟨S65536x2x8, .i32⟩
  | .hbm, ⟨34, _⟩ => ⟨S_, .i32⟩
  | .hbm, ⟨35, _⟩ => ⟨S65536x2, .i32⟩
  | .hbm, ⟨36, _⟩ => ⟨S_, .i32⟩
  | .hbm, ⟨37, _⟩ => ⟨S8, .i32⟩
  | .hbm, ⟨38, _⟩ => ⟨S1x8, .i32⟩
  | .hbm, ⟨39, _⟩ => ⟨S1x8, .f32⟩
  | .hbm, ⟨40, _⟩ => ⟨S_, .i32⟩
  | .hbm, ⟨41, _⟩ => ⟨S_, .f32⟩
  | .hbm, ⟨42, _⟩ => ⟨S1x128, .f32⟩
  | .hbm, ⟨43, _⟩ => ⟨S8x128, .f32⟩
  | .hbm, ⟨44, _⟩ => ⟨S65536x4, .i32⟩
  | .hbm, ⟨45, _⟩ => ⟨S_, .i32⟩
  | .hbm, ⟨46, _⟩ => ⟨S_, .i32⟩
  | .hbm, ⟨47, _⟩ => ⟨S65536x128, .i32⟩
  | .hbm, ⟨48, _⟩ => ⟨S_, .i32⟩
  | .hbm, ⟨49, _⟩ => ⟨S_, .f32⟩
  | .hbm, ⟨50, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_call1_call0_c : Ref sig .tc := ⟨.hbm, 27, rfl⟩
abbrev main_call1_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_call2_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_call3_v0 : Ref sig .tc := ⟨.hbm, 46, rfl⟩
abbrev main_v26 : Ref sig .tc := ⟨.hbm, 47, rfl⟩
abbrev main_c_6 : Ref sig .tc := ⟨.hbm, 48, rfl⟩
abbrev main_call4_v0 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Kernel6.lean ====
abbrev S8x8192 : Shape := ⟨2, ![8, 8192]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S8x8192x1 : Shape := ⟨3, ![8, 8192, 1]⟩
abbrev S8x8192x128 : Shape := ⟨3, ![8, 8192, 128]⟩
abbrev S1x512x1 : Shape := ⟨3, ![1, 512, 1]⟩
abbrev S1x512x128 : Shape := ⟨3, ![1, 512, 128]⟩
abbrev S512x1 : Shape := ⟨2, ![512, 1]⟩
abbrev S512x128 : Shape := ⟨2, ![512, 128]⟩

abbrev nBuf : Space → Nat
  | .hbm => 81
  | .vmem => 9
  | .smem => 0
  | _ => 0

abbrev bufTy : (tb : Table) → Fin (tcTables nBuf tb) → BufTy
  | .hbm, ⟨0, _⟩ => ⟨S8x8192, .i32⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S128, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S_, .i1⟩
  | .hbm, ⟨32, _⟩ => ⟨S128, .i1⟩
  | .hbm, ⟨33, _⟩ => ⟨S128, .i1⟩
  | .hbm, ⟨34, _⟩ => ⟨S128, .i1⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S_, .i1⟩
  | .hbm, ⟨57, _⟩ => ⟨S128, .i1⟩
  | .hbm, ⟨58, _⟩ => ⟨S128, .i1⟩
  | .hbm, ⟨59, _⟩ => ⟨S128, .i1⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S_, .i32⟩
  | .hbm, ⟨67, _⟩ => ⟨S128, .i32⟩
  | .hbm, ⟨68, _⟩ => ⟨S128, .i32⟩
  | .hbm, ⟨69, _⟩ => ⟨S128, .i32⟩
  | .hbm, ⟨70, _⟩ => ⟨S128x1, .i32⟩
  | .hbm, ⟨71, _⟩ => ⟨S128, .f32⟩
  | .hbm, ⟨72, _⟩ => ⟨S_, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S8x8192x1, .i32⟩
  | .hbm, ⟨78, _⟩ => ⟨S8x8192x128, .f32⟩
  | .hbm, ⟨79, _⟩ => ⟨S8x8192x128, .f32⟩
  | .hbm, ⟨80, _⟩ => ⟨S8x8192x128, .f32⟩
  | .local _ .vmem, ⟨0, _⟩ => ⟨S1x512x1, .i32⟩
  | .local _ .vmem, ⟨1, _⟩ => ⟨S1x512x1, .i32⟩
  | .local _ .vmem, ⟨2, _⟩ => ⟨S1x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v14 : Ref sig .tc := ⟨.hbm, 62, rfl⟩
abbrev main_c_5 : Ref sig .tc := ⟨.hbm, 63, rfl⟩
abbrev main_v15 : Ref sig .tc := ⟨.hbm, 64, rfl⟩
abbrev main_v16 : Ref sig .tc := ⟨.hbm, 65, rfl⟩
abbrev main_c_6 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst_7 : Ref sig .tc := ⟨.hbm, 72, rfl⟩
abbrev main_call2_v0 : Ref sig .tc := ⟨.hbm, 73, rfl⟩
abbrev main_call2_v1 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25_0 : Ref sig .tc := ⟨.hbm, 78, rfl⟩
abbrev main_v25_1 : Ref sig .tc := ⟨.hbm, 79, rfl⟩
abbrev main_v25_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8x8192 : Shape := ⟨2, ![8, 8192]⟩
abbrev S4 : Shape := ⟨1, ![4]⟩
abbrev S_ : Shape := ⟨0, ![]⟩
abbrev S8x8192x1 : Shape := ⟨3, ![8, 8192, 1]⟩
abbrev S1x1x4 : Shape := ⟨3, ![1, 1, 4]⟩
abbrev S8x8192x4 : Shape := ⟨3, ![8, 8192, 4]⟩
abbrev S8x8192x24 : Shape := ⟨3, ![8, 8192, 24]⟩
abbrev S8x8192x32 : Shape := ⟨3, ![8, 8192, 32]⟩
abbrev S8x8192x128 : Shape := ⟨3, ![8, 8192, 128]⟩

abbrev nBuf : Space → Nat
  | .hbm => 38
  | .vmem => 0
  | .smem => 0
  | _ => 0

abbrev bufTy : (tb : Table) → Fin (tcTables nBuf tb) → BufTy
  | .hbm, ⟨0, _⟩ => ⟨S8x8192, .i32⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S8x8192, .f32⟩
  | .hbm, ⟨16, _⟩ => ⟨S8x8192x1, .f32⟩
  | .hbm, ⟨17, _⟩ => ⟨S1x1x4, .f32⟩
  | .hbm, ⟨18, _⟩ => ⟨S8x8192x4, .f32⟩
  | .hbm, ⟨19, _⟩ => ⟨S8x8192x4, .f32⟩
  | .hbm, ⟨20, _⟩ => ⟨S8x8192x4, .f32⟩
  | .hbm, ⟨21, _⟩ => ⟨S8x8192x4, .f32⟩
  | .hbm, ⟨22, _⟩ => ⟨S8x8192x4, .f32⟩
  | .hbm, ⟨23, _⟩ => ⟨S_, .f32⟩
  | .hbm, ⟨24, _⟩ => ⟨S8x8192x4, .f32⟩
  | .hbm, ⟨25, _⟩ => ⟨S_, .f32⟩
  | .hbm, ⟨26, _⟩ => ⟨S8x8192x24, .f32⟩
  | .hbm, ⟨27, _⟩ => ⟨S8x8192x32, .f32⟩
  | .hbm, ⟨28, _⟩ => ⟨S8x8192x128, .f32⟩
  | .hbm, ⟨29, _⟩ => ⟨S8x8192x4, .f32⟩
  | .hbm, ⟨30, _⟩ => ⟨S_, .f32⟩
  | .hbm, ⟨31, _⟩ => ⟨S8x8192x24, .f32⟩
  | .hbm, ⟨32, _⟩ => ⟨S8x8192x32, .f32⟩
  | .hbm, ⟨33, _⟩ => ⟨S8x8192x128, .f32⟩
  | .hbm, ⟨34, _⟩ => ⟨S_, .f32⟩
  | .hbm, ⟨35, _⟩ => ⟨S8x8192x24, .f32⟩
  | .hbm, ⟨36, _⟩ => ⟨S8x8192x32, .f32⟩
  | .hbm, ⟨37, _⟩ => ⟨S8x8192x128, .f32⟩
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Moe.Setup.lean ====
/- The set-up of the routed experts' launch: what the region finds in the buffers after the host operations (the three
   weight arrays cast, the tiles' expert table built), the two prefetched tables, the pipeline at their contents, the
   blocks its windows stage, and the staging buffers the body is called with. -/
module

public import proofs.«01_k».proof.Proof.Gen.KernelIdeal.Skeleton
public import proofs.«01_k».proof.Proof.Gen.KernelIdeal.Launch
public import Idealize.ShloMosaic.Lib.Claim

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The TensorCore's buffers when the region is entered: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The buffers the host operations write. -/
abbrev written : List (Ref sig .tc) :=
  [main_v0, main_v1, main_v2, main_v3, main_v4, main_c, main_v5, main_v6, main_v7, main_c_0, main_v8, main_v9, main_c_1,
    main_v10, main_v11, main_v12, main_v13, main_v14]

/-- A buffer that no host operation writes is found as launched. -/
theorem V_keep (c : Dev nD) (b : Ref sig .tc) (h : b ∉ written) : V m c b = m ((c : Thread nD τ).loc b) := by
  simp only [written, List.mem_cons, List.not_mem_nil, or_false, not_or] at h
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.reshape_writes, Finset.mem_singleton]
  obtain ⟨h0, h1, h2, h3, h4, h5, h6, h7, h8, h9, h10, h11, h12, h13, h14, h15, h16, h17⟩ := h
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15,
    StableHlo.devRef_ne_of_ne h16, StableHlo.devRef_ne_of_ne h17⟩

/-! ## The prefetched tables -/

/-- The two tables' contents at the region's entry: the tiles' experts and the number of tiles in use. -/
def tbl : pre0.Contents (Elt F) := fun j => V m (0 : Dev nD) (pre0.ref j)

/-- There is one device, so every device's tables hold these contents. -/
theorem V_pre (c : Dev nD) (j : Fin 2) : V m c (pre0.ref j) = tbl m j := by
  obtain rfl : c = 0 := Subsingleton.elim _ _; rfl

/-- The condition on the tables' contents: every block the index maps name lies inside its array. -/
abbrev Ok : Prop := ok0 (F := F) (tbl m)

/-- The contents as admissible contents, and the pipeline at them. -/
abbrev adm (hO : Ok m) : (pcfg0 (F := F)).Adm := ⟨tbl m, hO⟩
abbrev cfgM (hO : Ok m) : Pipeline.Cfg sig Λ₀ := cfg0 (adm m hO)

/-- The number of tiles in use, as the word the second table holds. -/
abbrev used : BitVec 32 := (tbl m).atD 1 ![0]

/-- The one word of a table of one word. -/
abbrev word (x : S1.Idx → BitVec 32) : BitVec 32 := x (fun a => ⟨0, by revert a; decide⟩)

/-- The two tables as the body is handed them. -/
abbrev tbM0 : Memref sig .tc .smem S264 .i32 := Memref.whole main_v14
abbrev htbM0 : tbM0.IsWhole := Memref.isWhole_whole _
abbrev tbM1 : Memref sig .tc .smem S1 .i32 := Memref.whole main_arg5
abbrev htbM1 : tbM1.IsWhole := Memref.isWhole_whole _

/-- A table's buffer on a core, and half of it held at given contents: the body reads the tables and writes neither. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The halves of the tables that the region hands the body, one by one. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- A window's block at a point, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The result window is written back at the second of a tile's two points. -/
theorem flush4 (hO : Ok m) : ∀ t : Fin (cfgM m hO).N, ((cfgM m hO).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-! ## The body's staging buffers -/

abbrev ms0 (hO : Ok m) (t : Fin (cfgM m hO).N) : Memref sig .tc .vmem S512x1024 .f32 := spec0_0.stage ((cfgM m hO).slots t 0)
abbrev ms1 (hO : Ok m) (t : Fin (cfgM m hO).N) : Memref sig .tc .vmem S1x1024x1792 .bf16 := spec0_1.stage ((cfgM m hO).slots t 1)
abbrev ms2 (hO : Ok m) (t : Fin (cfgM m hO).N) : Memref sig .tc .vmem S1x1024x1792 .bf16 := spec0_2.stage ((cfgM m hO).slots t 2)
abbrev ms3 (hO : Ok m) (t : Fin (cfgM m hO).N) : Memref sig .tc .vmem S1x1792x1024 .bf16 := spec0_3.stage ((cfgM m hO).slots t 3)
abbrev ms4 (hO : Ok m) (t : Fin (cfgM m hO).N) : Memref sig .tc .vmem S512x1024 .f32 := spec0_4.stage ((cfgM m hO).slots t 4)

/-- The body at a point, on what the pipeline calls it with. -/
abbrev bodyAt (hO : Ok m) (t : Fin (cfgM m hO).N) : Prog (TpuEff nD τ sig (Elt F) Λ₀ .tc) PUnit :=
  cc0_moe_grouped_ffn (grid0.coords t) tbM0 htbM0 tbM1 htbM1
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4))

end Cert.Moe

end
-- ==== Proof.Moe.Run.lean ====
/- The body's runs, one for each way its conditions fall: on a tile in use at the first half of the hidden columns, at the
   second half, and on a tile that is not in use. -/
module

public import proofs.«01_k».proof.Proof.Moe.Setup
public import Idealize.ShloMosaic.Lib.Pipeline.FrameBody
public import Idealize.ShloMosaic.Lib.Pipeline.Value

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl

/-- A table of one word has only one index. -/
theorem word_eq (x : S1.Idx → BitVec 32) (j : S1.Idx) : x j = word x :=
  congrArg x (funext fun a => Fin.ext (by have := (j a).isLt; fin_cases a; exact Nat.lt_one_iff.1 (by simpa using this)))

/-- A store of a whole block is read back as what was stored. -/
theorem read_store (M : Memref sig .tc .vmem S512x1024 .f32) (f : M.view.ty.Contents (Elt F))
    (inb : ∀ a, (![0, 0] : Fin 2 → ℕ) a + S512x1024.size a ≤ S512x1024.size a) (w : Vec F S512x1024 .f32) :
    M.view.read (Elt F) (M.view.writes (Elt F) f [⟨Rect.unit ![0, 0] S512x1024.size inb, w⟩]) = w := by
  rw [View.read_writes_eq_canon _ _ _ (fun y => ⟨_, List.mem_singleton.2 rfl, by
    rw [Rect.mem_set_unit]; intro a; have := (y a).isLt; fin_cases a <;> exact ⟨Nat.zero_le _, by simpa using this⟩⟩)]
  exact View.canon_unit_zero (S := S512x1024) hz2 inb w

set_option maxHeartbeats 1000000 in
/-- On a tile in use, at the first half of the hidden columns: the result block is stored. -/
theorem run_first (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (x0 : Vec F S512x1024 .f32) (x1 : Vec F S1x1024x1792 .bf16) (x2 : Vec F S1x1024x1792 .bf16) (x3 : Vec F S1x1792x1024 .bf16) (xt0 : TbBuf (F := F) c tbM0) (xt1 : TbBuf (F := F) c tbM1)
    (h1 : k0_cond1 i (word xt1) = 1#1) (h2 : k0_cond2 i = 1#1) (h3 : ¬ k0_cond3 i = 1#1) (h4 : ¬ k0_cond4 i (word xt1) = 1#1)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay1 x0 x1 x2 x3) ∗ tbPt c tbM0 xt0 ∗ tbPt c tbM1 xt1) -∗ K ⟨⟩))
          ⊢ wp frame (wpE (defs₀ (F := F)) Variants.none c none) E (cc0_moe_grouped_ffn i tbM0 htbM0 tbM1 htbM1 arg4 harg4 arg5 harg5 arg6 harg6 arg7 harg7 arg8 harg8) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg4.eq_unread hf0; obtain rfl := harg5.eq_unread hf1; obtain rfl := harg6.eq_unread hf2; obtain rfl := harg7.eq_unread hf3
  sl_exec (disch := first | sl_exact h2 | sl_exact h3)
  have hw : run_first.sl.r c xt1 = word xt1 := by sl_unfold_words; exact word_eq xt1 _
  simp only [hw, dif_neg h4, dif_pos h1]
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    rw [read_store]
    simp only [View.readAt_eq_ld, hf0, hf1, hf2, hf3, View.ld_unit_zero (S := S512x1024) hz2, View.ld_unit_zero (S := S1x1024x1792) hz3, View.ld_unit_zero (S := S1x1792x1024) hz3]
  isplitl [HT0]; · iexact HT0
  iexact HT1

set_option maxHeartbeats 1000000 in
/-- On a tile in use, at the second half of the hidden columns: its product is added to what the result block holds. -/
theorem run_second (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (x0 : Vec F S512x1024 .f32) (x1 : Vec F S1x1024x1792 .bf16) (x2 : Vec F S1x1024x1792 .bf16) (x3 : Vec F S1x1792x1024 .bf16) (xt0 : TbBuf (F := F) c tbM0) (xt1 : TbBuf (F := F) c tbM1)
    (d : Vec F S512x1024 .f32) (h1 : k0_cond1 i (word xt1) = 1#1) (h2 : ¬ k0_cond2 i = 1#1) (h3 : k0_cond3 i = 1#1) (h4 : ¬ k0_cond4 i (word xt1) = 1#1)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare d ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay2 x0 x1 x2 x3 d) ∗ tbPt c tbM0 xt0 ∗ tbPt c tbM1 xt1) -∗ K ⟨⟩))
          ⊢ wp frame (wpE (defs₀ (F := F)) Variants.none c none) E (cc0_moe_grouped_ffn i tbM0 htbM0 tbM1 htbM1 arg4 harg4 arg5 harg5 arg6 harg6 arg7 harg7 arg8 harg8) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact h2 | sl_exact h3)
  have hw : run_second.sl.r c xt1 = word xt1 := by sl_unfold_words; exact word_eq xt1 _
  simp only [hw, dif_neg h4, dif_pos h1]
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    rw [read_store]
    simp only [View.readAt_eq_ld, hf0, hf1, hf2, hf3, hf4, View.ld_unit_zero (S := S512x1024) hz2, View.ld_unit_zero (S := S1x1024x1792) hz3, View.ld_unit_zero (S := S1x1792x1024) hz3]
  isplitl [HT0]; · iexact HT0
  iexact HT1

set_option maxHeartbeats 1000000 in
/-- On a tile that is not in use: the result block is cleared. -/
theorem run_idle (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole)
    (x0 : Vec F S512x1024 .f32) (x1 : Vec F S1x1024x1792 .bf16) (x2 : Vec F S1x1024x1792 .bf16) (x3 : Vec F S1x1792x1024 .bf16) (xt0 : TbBuf (F := F) c tbM0) (xt1 : TbBuf (F := F) c tbM1)
    (h1 : ¬ k0_cond1 i (word xt1) = 1#1) (h4 : k0_cond4 i (word xt1) = 1#1)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare k0_pay3 ∗ tbPt c tbM0 xt0 ∗ tbPt c tbM1 xt1) -∗ K ⟨⟩))
          ⊢ wp frame (wpE (defs₀ (F := F)) Variants.none c none) E (cc0_moe_grouped_ffn i tbM0 htbM0 tbM1 htbM1 arg4 harg4 arg5 harg5 arg6 harg6 arg7 harg7 arg8 harg8) K := by
  simp only [cc0_moe_grouped_ffn_eq_skeleton]; unfold cc0_moe_grouped_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg4.eq_unread hf0; obtain rfl := harg5.eq_unread hf1; obtain rfl := harg6.eq_unread hf2; obtain rfl := harg7.eq_unread hf3
  sl_exec (disch := first | sl_exact h1)
  have hw : run_idle.sl.r c xt1 = word xt1 := by sl_unfold_words; exact word_eq xt1 _
  simp only [hw, dif_neg h1, dif_pos h4]
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    rw [read_store]
  isplitl [HT0]; · iexact HT0
  iexact HT1

end Cert.Moe

end
-- ==== Proof.Moe.Cond.lean ====
/- The body's conditions, read off the point and the number of tiles in use. -/
module

public import proofs.«01_k».proof.Proof.Moe.Run

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions -/

/-- The first condition holds on the tiles before the number of tiles in use, -/
theorem cond1_iff (i : grid0.Coords) (v : BitVec 32) : k0_cond1 i v = 1#1 ↔ (BitVec.ofNat 32 (i 0).val).slt v = true := by
  simp only [k0_cond1, Scalar.cmpi, Scalar.extui, IntOp.cmpi]
  cases (BitVec.ofNat 32 (i 0).val).slt v <;> decide

/-- and the last on the others. -/
theorem cond4_iff (i : grid0.Coords) (v : BitVec 32) : k0_cond4 i v = 1#1 ↔ ¬ k0_cond1 i v = 1#1 := by
  rw [cond1_iff]
  simp only [k0_cond4, Scalar.cmpi, Scalar.extui, IntOp.cmpi]
  rw [show v.sle (BitVec.ofNat 32 (i 0).val) = !(BitVec.ofNat 32 (i 0).val).slt v from BitVec.sle_eq_not_slt ..]
  cases (BitVec.ofNat 32 (i 0).val).slt v <;> decide

/-- The second condition holds at the first half of the hidden columns, -/
theorem cond2_iff (i : grid0.Coords) : k0_cond2 i = 1#1 ↔ (i 1).val = 0 := by
  have h : (i 1).val < 2 := (i 1).isLt
  obtain e | e : (i 1).val = 0 ∨ (i 1).val = 1 := by omega
  all_goals simp only [k0_cond2, e]; decide

/-- and the third at the second. -/
theorem cond3_iff (i : grid0.Coords) : k0_cond3 i = 1#1 ↔ (i 1).val = 1 := by
  have h : (i 1).val < 2 := (i 1).isLt
  obtain e | e : (i 1).val = 0 ∨ (i 1).val = 1 := by omega
  all_goals simp only [k0_cond3, e]; decide

/-- A point's two coordinates: its tile and its half. -/
theorem coord0 (t : Fin grid0.N) : (grid0.coords t 0).val = t.val / 2 := by
  have ht : t.val < 528 := Nat.lt_of_lt_of_eq t.isLt N_0
  have e0 : (grid0.coords t 0).val = t.val / 2 % 264 := Pipeline.Grid.coords_val t 0 (by decide) rfl
  omega
theorem coord1 (t : Fin grid0.N) : (grid0.coords t 1).val = t.val % 2 := by
  have e1 : (grid0.coords t 1).val = t.val / 1 % 2 := Pipeline.Grid.coords_val t 1 (by decide) rfl
  omega

/-- So the body stores the result block at every point. -/
theorem live4 (pf : pre0.Contents (Elt F)) (i : grid0.Coords) : idle0 pf 4 i = false := by
  show (!(k0_cond1 i (pf.atD 1 ![0]) == 1#1 && k0_cond2 i == 1#1) && !(k0_cond1 i (pf.atD 1 ![0]) == 1#1 && k0_cond3 i == 1#1) && !(k0_cond4 i (pf.atD 1 ![0]) == 1#1)) = false
  have h : (i 1).val < 2 := (i 1).isLt
  by_cases h1 : k0_cond1 i (pf.atD 1 ![0]) = 1#1
  · obtain e | e : (i 1).val = 0 ∨ (i 1).val = 1 := by omega
    · have h2 := (cond2_iff i).2 e
      rw [h1, h2]; rfl
    · have h3 := (cond3_iff i).2 e
      rw [h1, h3]; simp
  · have h4 := (cond4_iff i _).2 h1
    rw [h4]; simp

/-- The number of tiles in use, as the body reads it. -/
theorem used_eq : used m = word (tbl m 1) := by
  unfold used Pipeline.Prefetch.Contents.atD
  rw [dif_pos (by intro a; revert a; decide)]
  exact word_eq _ _

end Cert.Moe

end
-- ==== Proof.Moe.Frame.lean ====
/- The launch's run: what the body leaves at every point, its obligation, and the run of the whole program. -/
module

public import proofs.«01_k».proof.Proof.Moe.Cond

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

attribute [local irreducible] tbl

/-- What one half of the hidden columns adds to a tile's result block. -/
def part (hO : Ok m) (c : Dev nD) (t : Fin (cfgM m hO).N) : Vec F S512x1024 .f32 :=
  k0_pay1 (iblk m hO c 0 t) (iblk m hO c 1 t) (iblk m hO c 2 t) (iblk m hO c 3 t)

/-- The point before. -/
abbrev prev (hO : Ok m) (t : Fin (cfgM m hO).N) : Fin (cfgM m hO).N := ⟨t.val - 1, Nat.lt_of_le_of_lt (Nat.sub_le _ _) t.isLt⟩

/-- The result block after the body at a point: on a tile in use the first half's product, then both; else zeros. -/
def res (hO : Ok m) (c : Dev nD) (t : Fin (cfgM m hO).N) : Vec F S512x1024 .f32 :=
  if k0_cond1 (grid0.coords t) (word (tbl m 1)) = 1#1 then
    if t.val % 2 = 0 then part m hO c t
    else k0_pay2 (iblk m hO c 0 t) (iblk m hO c 1 t) (iblk m hO c 2 t) (iblk m hO c 3 t) (part m hO c (prev m hO t))
  else k0_pay3

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => res m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = res m hO c t := by dsimp only [dats]; try rfl

/-- An operand's staging buffer holds its block at every point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem live_4 (hO : Ok m) (i : grid0.Coords) : (cfgM m hO).idle 4 i = false := by
  show idle0 (tbl m) 4 i = false
  exact live4 _ i

/-- The result block is not written back between a tile's two points. -/
theorem flush_prev (hO : Ok m) (t : Fin (cfgM m hO).N) (ht : t.val % 2 = 1) : ((cfgM m hO).win 4).flush (prev m hO t) = false :=
  Bool.eq_false_iff.2 fun h => by
    have h := (flush4 m hO _).1 h
    have : (t.val - 1) % 2 = 1 := h
    omega

/-- At a tile's second point the result's staging buffer holds what the first left. -/
theorem before_4 (hO : Ok m) (c : Dev nD) (t : Fin (cfgM m hO).N) (ht : t.val % 2 = 1) (d) : (dats m hO 0 c).before 4 t d = res m hO c (prev m hO t) := by
  have h0 : t.val ≠ 0 := by omega
  rw [← after_4 m hO c (prev m hO t)]
  exact (dats m hO 0 c).before_out_kept 4 rfl t h0 (flush_prev m hO t ht) (live_4 m hO) (fun _ _ => rfl) d

/-! ## The body obligation -/

/-- The body's precondition and postcondition at a point, the windows one by one. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves_0 (hO : Ok m) (c : Dev nD) (t : Fin (cfgM m hO).N) : (dats m hO 0 c).leavesExact 0 t = owns (c : Thread nD τ) (ms0 m hO t) fullShare (iblk m hO c 0 t) := by
  unfold Dat.leavesExact; rw [show (cfgM m hO).idle 0 (grid0.coords t) = false from rfl, after_0]; rfl
theorem leaves_1 (hO : Ok m) (c : Dev nD) (t : Fin (cfgM m hO).N) : (dats m hO 0 c).leavesExact 1 t = owns (c : Thread nD τ) (ms1 m hO t) fullShare (iblk m hO c 1 t) := by
  unfold Dat.leavesExact; rw [show (cfgM m hO).idle 1 (grid0.coords t) = false from rfl, after_1]; rfl
theorem leaves_2 (hO : Ok m) (c : Dev nD) (t : Fin (cfgM m hO).N) : (dats m hO 0 c).leavesExact 2 t = owns (c : Thread nD τ) (ms2 m hO t) fullShare (iblk m hO c 2 t) := by
  unfold Dat.leavesExact; rw [show (cfgM m hO).idle 2 (grid0.coords t) = false from rfl, after_2]; rfl
theorem leaves_3 (hO : Ok m) (c : Dev nD) (t : Fin (cfgM m hO).N) : (dats m hO 0 c).leavesExact 3 t = owns (c : Thread nD τ) (ms3 m hO t) fullShare (iblk m hO c 3 t) := by
  unfold Dat.leavesExact; rw [show (cfgM m hO).idle 3 (grid0.coords t) = false from rfl, after_3]; rfl
theorem leaves_4 (hO : Ok m) (c : Dev nD) (t : Fin (cfgM m hO).N) : (dats m hO 0 c).leavesExact 4 t = owns (c : Thread nD τ) (ms4 m hO t) fullShare (res m hO c t) := by
  unfold Dat.leavesExact; rw [show (cfgM m hO).idle 4 (grid0.coords t) = false from live_4 m hO _, after_4]; rfl

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [leaves_0, leaves_1, leaves_2, leaves_3, leaves_4]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT_eq]
  by_cases h1 : k0_cond1 (grid0.coords t) (word (tbl m 1)) = 1#1
  · have h4 : ¬ k0_cond4 (grid0.coords t) (word (tbl m 1)) = 1#1 := fun h => (cond4_iff _ _).1 h h1
    by_cases ht : t.val % 2 = 0
    · have h2 : k0_cond2 (grid0.coords t) = 1#1 := (cond2_iff _).2 ((coord1 t).trans ht)
      have h3 : ¬ k0_cond3 (grid0.coords t) = 1#1 := fun h => by
        have := (coord1 t).symm.trans ((cond3_iff _).1 h); omega
      rw [show res m hO c t = k0_pay1 (iblk m hO c 0 t) (iblk m hO c 1 t) (iblk m hO c 2 t) (iblk m hO c 3 t) from by
        unfold res; rw [if_pos h1, if_pos ht]; rfl]
      iintro ⟨⟨HΦ, ⟨HT0, HT1⟩⟩, Ho, ⟨%d0, H0⟩, ⟨%d1, H1⟩, ⟨%d2, H2⟩, ⟨%d3, H3⟩, ⟨%d4, H4⟩⟩
      iapply (run_first c (grid0.coords t) _ _ _ _ _ _ _ _ _ _ (iblk m hO c 0 t) (iblk m hO c 1 t) (iblk m hO c 2 t) (iblk m hO c 3 t) (tbl m 0) (tbl m 1) h1 h2 h3 h4 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      iintro ⟨H0, H1, H2, H3, H4, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      iexact H4
    · have ht1 : t.val % 2 = 1 := by omega
      have h3 : k0_cond3 (grid0.coords t) = 1#1 := (cond3_iff _).2 ((coord1 t).trans ht1)
      have h2 : ¬ k0_cond2 (grid0.coords t) = 1#1 := fun h => by
        have := (coord1 t).symm.trans ((cond2_iff _).1 h); omega
      have hp : k0_cond1 (grid0.coords (prev m hO t)) (word (tbl m 1)) = 1#1 := by
        rw [cond1_iff] at h1 ⊢
        rw [coord0] at h1 ⊢
        rwa [show (prev m hO t).val / 2 = t.val / 2 from by show (t.val - 1) / 2 = _; omega]
      have hr : res m hO c (prev m hO t) = part m hO c (prev m hO t) := by
        unfold res; rw [if_pos hp, if_pos (show (t.val - 1) % 2 = 0 by omega)]
      rw [show res m hO c t = k0_pay2 (iblk m hO c 0 t) (iblk m hO c 1 t) (iblk m hO c 2 t) (iblk m hO c 3 t) (part m hO c (prev m hO t)) from by
        unfold res; rw [if_pos h1, if_neg ht]]
      simp only [before_4 m hO c t ht1, hr]
      iintro ⟨⟨HΦ, ⟨HT0, HT1⟩⟩, Ho, ⟨%d0, H0⟩, ⟨%d1, H1⟩, ⟨%d2, H2⟩, ⟨%d3, H3⟩, ⟨%d4, H4⟩⟩
      iapply (run_second c (grid0.coords t) _ _ _ _ _ _ _ _ _ _ (iblk m hO c 0 t) (iblk m hO c 1 t) (iblk m hO c 2 t) (iblk m hO c 3 t) (tbl m 0) (tbl m 1) (part m hO c (prev m hO t)) h1 h2 h3 h4 Set.univ _)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      iintro ⟨H0, H1, H2, H3, H4, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have h4 : k0_cond4 (grid0.coords t) (word (tbl m 1)) = 1#1 := (cond4_iff _ _).2 h1
    rw [show res m hO c t = k0_pay3 from by unfold res; rw [if_neg h1]]
    iintro ⟨⟨HΦ, ⟨HT0, HT1⟩⟩, Ho, ⟨%d0, H0⟩, ⟨%d1, H1⟩, ⟨%d2, H2⟩, ⟨%d3, H3⟩, ⟨%d4, H4⟩⟩
    iapply (run_idle c (grid0.coords t) _ _ _ _ _ _ _ _ _ _ (iblk m hO c 0 t) (iblk m hO c 1 t) (iblk m hO c 2 t) (iblk m hO c 3 t) (tbl m 0) (tbl m 1) h1 h4 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The pipeline's body obligation. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

set_option backward.isDefEq.respectTransparency.types false in
/-- The launch: every execution ends with the arrays as the pipeline leaves them and every counter at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

end Cert.Moe

end
-- ==== Proof.Moe.Pre.lean ====
/- What the precondition says of the two tables the launch is given. -/
module

public import proofs.«01_k».proof.Proof.Moe.Cond
public import proofs.«01_k».proof.Proof.Gen.Pre_in_range
public import Idealize.ShloMosaic.Lib.StableHlo.Predicate
public import Idealize.ShloMosaic.Lib.Affine
public import Idealize.ShloMosaic.Lib.ReduceAll

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the precondition says -/

/-- The tiles' experts are below 8, and the number of tiles in use is from 1 to 264. -/
structure InRange (te : S264.Idx → BitVec 32) (nu : S1.Idx → BitVec 32) : Prop where
  expert : ∀ x, (te x).toNat < 8
  low : 1 ≤ (word nu).toNat
  high : (word nu).toNat ≤ 264

/-- A word between two small bounds, read signed, is so read unsigned. -/
theorem between (a lo hi : BitVec 32) (hlo : lo.toNat < 2 ^ 31) (hhi : hi.toNat < 2 ^ 31) (h1 : lo.toInt ≤ a.toInt) (h2 : a.toInt ≤ hi.toInt) :
    lo.toNat ≤ a.toNat ∧ a.toNat ≤ hi.toNat := by
  rw [StableHlo.Predicate.toInt_eq_toNat_of_lt hlo] at h1
  rw [StableHlo.Predicate.toInt_eq_toNat_of_lt hhi] at h2
  have := BitVec.toInt_eq_toNat_cond a
  have hb := a.isLt
  split at this <;> omega

theorem inRange_of_pre (x0 : FVec F S135168x1024 .f32) (x1 x2 : FVec F S8x1024x3584 .f32) (x3 : FVec F S8x3584x1024 .f32)
    (te : S264.Idx → BitVec 32) (nu : S1.Idx → BitVec 32)
    (h : Cert.Pre_in_range.fn (F := F) x0 x1 x2 x3 te nu = fun _ => 1#1) : InRange te nu := by
  have h := congrFun h (fun a => a.elim0)
  unfold Cert.Pre_in_range.fn at h
  obtain ⟨ha, hb⟩ := IntOp.andi_eq_one.1 h
  haveI : Subsingleton S_.Idx := ⟨fun a b => funext fun i => i.elim0⟩
  have ha := Host.reduce_andi_all _ _ _ _ _ ha
  have hb := Host.reduce_andi_all _ _ _ _ _ hb (fun a => ⟨0, by revert a; decide⟩)
  obtain ⟨hb1, hb2⟩ := IntOp.andi_eq_one.1 hb
  have hb1 : ((1#32 : BitVec 32).sle (word nu)) = true := (StableHlo.Predicate.ofBool_eq_one_iff _).1 hb1
  have hb2 : ((word nu).sle 264#32) = true := (StableHlo.Predicate.ofBool_eq_one_iff _).1 hb2
  simp only [BitVec.sle, decide_eq_true_eq] at hb1 hb2
  have hw := between _ _ _ (by decide) (by decide) hb1 hb2
  refine ⟨fun x => ?_, hw.1, hw.2⟩
  obtain ⟨h1, h2⟩ := IntOp.andi_eq_one.1 (ha x)
  have h1 : ((0#32 : BitVec 32).sle (te x)) = true := (StableHlo.Predicate.ofBool_eq_one_iff _).1 h1
  have h2 : ((te x).slt 8#32) = true := (StableHlo.Predicate.ofBool_eq_one_iff _).1 h2
  simp only [BitVec.sle, BitVec.slt, decide_eq_true_eq] at h1 h2
  have h7 : (te x).toInt ≤ (7#32 : BitVec 32).toInt := by
    have e8 : (8#32 : BitVec 32).toInt = 8 := by decide
    have e7 : (7#32 : BitVec 32).toInt = 7 := by decide
    omega
  have := (between _ _ _ (by decide) (by decide) h1 h7).2
  exact Nat.lt_succ_of_le this

end Cert.Moe

end
-- ==== Proof.Moe.Table.lean ====
/- The tiles' experts as the launch finds them. -/
module

public import proofs.«01_k».proof.Proof.Moe.Pre
public import proofs.«01_k».proof.Proof.Moe.Run

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tiles' experts -/

/-- The arguments that name the tiles' experts and the number of tiles in use. -/
abbrev argE (c : Dev nD) : S264.Idx → BitVec 32 := m ((c : Thread nD τ).loc main_arg4)
abbrev argN (c : Dev nD) : S1.Idx → BitVec 32 := m ((c : Thread nD τ).loc main_arg5)

/-- The clamped positions, and the start indices the look-up takes. -/
def clampPos (nu : S1.Idx → BitVec 32) : IVec S264 32 :=
  minsi (iotaInDim S264 32 0) (broadcastInDim S264 ![] bcast_S_S264 (subi (shapeCast S_ nu shapeCasts_S1_S_) (constantI S_ 32 1#32)))
def startPos (nu : S1.Idx → BitVec 32) : IVec S264 32 :=
  select (cmpi .slt (clampPos nu) (broadcastInDim S264 ![] bcast_S_S264 (constantI S_ 32 0#32)))
    (addi (clampPos nu) (broadcastInDim S264 ![] bcast_S_S264 (constantI S_ 32 264#32))) (clampPos nu)

set_option maxHeartbeats 1000000 in
theorem V_experts (c : Dev nD) : V m c main_v14
    = Host.gather gather_S264_S264x1_S264_n_0_n_n_0_1_1 (argE m c) (broadcastInDim S264x1 ![0] bcast_S264_S264x1_0 (startPos (argN m c))) := by
  unfold_abbrev_sides
  after_results
  rfl

/-! ## Words as numbers -/

theorem toNat_small {a : ℕ} (h : a < 2 ^ 31) : (BitVec.ofNat 32 a).toNat = a := by
  rw [BitVec.toNat_ofNat]; exact Nat.mod_eq_of_lt (by omega)

/-- A tile's position, clamped at the last tile in use. -/
theorem clamp_word (p : ℕ) (hp : p < 264) (w : BitVec 32) (h1 : 1 ≤ w.toNat) (h2 : w.toNat ≤ 264) :
    IntOp.minsi (BitVec.ofNat 32 p) (IntOp.subi w 1#32) = BitVec.ofNat 32 (min p (w.toNat - 1)) := by
  have hs : IntOp.subi w 1#32 = BitVec.ofNat 32 (w.toNat - 1) := by
    apply BitVec.eq_of_toNat_eq
    rw [toNat_small (by omega)]
    simp only [IntOp.subi, BitVec.toNat_sub, BitVec.toNat_ofNat]
    omega
  rw [hs]
  have hl : (BitVec.ofNat 32 p).slt (BitVec.ofNat 32 (w.toNat - 1)) = decide (p < w.toNat - 1) := by
    rw [BitVec.slt, StableHlo.Predicate.toInt_ofNat_small _ (by omega), StableHlo.Predicate.toInt_ofNat_small _ (by omega)]
    exact decide_eq_decide.2 (by omega)
  simp only [IntOp.minsi, hl, decide_eq_true_eq]
  by_cases h : p < w.toNat - 1
  · rw [if_pos h, Nat.min_eq_left (Nat.le_of_lt h)]
  · rw [if_neg h, Nat.min_eq_right (by omega)]

/-- A comparison of a tile's position with the number of tiles in use. -/
theorem slt_word (p : ℕ) (hp : p < 264) (w : BitVec 32) (h2 : w.toNat ≤ 264) : (BitVec.ofNat 32 p).slt w = decide (p < w.toNat) := by
  simp only [BitVec.slt]
  rw [StableHlo.Predicate.toInt_ofNat_small _ (by omega), StableHlo.Predicate.toInt_eq_toNat_of_lt (by omega)]
  simp only [Nat.cast_lt]

/-! ## The tables -/

theorem clampPos_at (nu : S1.Idx → BitVec 32) (p : Fin 264) (h1 : 1 ≤ (word nu).toNat) (h2 : (word nu).toNat ≤ 264) :
    clampPos nu (Shape.Idx.ofFin p) = BitVec.ofNat 32 (min p.val ((word nu).toNat - 1)) := by
  rw [← clamp_word p.val p.isLt (word nu) h1 h2]
  show IntOp.minsi _ (broadcastInDim S264 ![] bcast_S_S264 _ (Shape.Idx.ofFin p)) = _
  rw [StableHlo.Predicate.bcast_scalar bcast_S_S264 (show 0 < S_.numel by decide)]
  show IntOp.minsi _ (IntOp.subi (nu _) _) = _
  rw [word_eq nu]
  rfl

theorem startPos_at (nu : S1.Idx → BitVec 32) (p : Fin 264) (h1 : 1 ≤ (word nu).toNat) (h2 : (word nu).toNat ≤ 264) :
    startPos nu (Shape.Idx.ofFin p) = BitVec.ofNat 32 (min p.val ((word nu).toNat - 1)) := by
  have hc := clampPos_at nu p h1 h2
  have hp := p.isLt
  show Scalar.select (IntOp.cmpi .slt (clampPos nu (Shape.Idx.ofFin p)) (broadcastInDim S264 ![] bcast_S_S264 _ (Shape.Idx.ofFin p))) _ _ = _
  rw [StableHlo.Predicate.bcast_scalar bcast_S_S264 (show 0 < S_.numel by decide), hc]
  have : IntOp.cmpi .slt (BitVec.ofNat 32 (min p.val ((word nu).toNat - 1))) (constantI S_ 32 0#32 (Shape.Idx.first (show 0 < S_.numel by decide))) = 0#1 := by
    simp only [IntOp.cmpi, BitVec.slt]
    rw [StableHlo.Predicate.toInt_ofNat_small _ (by omega)]
    rfl
  rw [this]
  rfl

/-- The number of tiles in use is the argument's. -/
theorem tbl_used : tbl m 1 = argN m 0 := V_keep m 0 main_arg5 (by decide)

/-- A tile's expert is the argument's at its position, clamped at the last tile in use. -/
theorem tbl_expert (h : InRange (argE m 0) (argN m 0)) (p : Fin 264) :
    (tbl m 0 : S264.Idx → BitVec 32) (Shape.Idx.ofFin p)
      = argE m 0 (Shape.Idx.ofFin ⟨min p.val ((word (argN m 0)).toNat - 1), lt_of_le_of_lt (Nat.min_le_left _ _) p.isLt⟩) := by
  have hp := p.isLt
  have h1 := h.low
  have h2 := h.high
  refine (congrFun (V_experts m 0) _).trans ?_
  rw [StableHlo.Predicate.gather_take _ rfl rfl rfl rfl _ _ p (by decide)]
  refine congrArg (argE m 0) (congrArg Shape.Idx.ofFin (Fin.ext ?_))
  show min (broadcastInDim S264x1 ![0] bcast_S264_S264x1_0 (startPos (argN m 0)) (StableHlo.Predicate.ixP p)).toInt.toNat (264 - 1) = _
  rw [StableHlo.Predicate.bcast_col1, startPos_at _ p h1 h2, StableHlo.Predicate.toInt_ofNat_small _ (by omega)]
  simp only [Int.toNat_natCast]
  omega

end Cert.Moe

end
-- ==== Proof.Moe.Blocks.lean ====
/- Where the windows' blocks lie, and that they lie inside their arrays. -/
module

public import proofs.«01_k».proof.Proof.Moe.Table

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows' blocks lie -/

/-- What the tables must hold: experts below 8, and between 1 and 264 tiles in use. -/
abbrev TabOk (pf : pre0.Contents (Elt F)) : Prop := InRange (pf 0) (pf 1)

theorem tabOk (h : InRange (argE m 0) (argN m 0)) : TabOk (tbl m) := by
  have hN := tbl_used m
  refine ⟨fun x => ?_, ?_, ?_⟩
  · obtain ⟨p, rfl⟩ : ∃ p : Fin 264, x = Shape.Idx.ofFin p := ⟨x 0, funext fun a => by obtain rfl : a = 0 := Subsingleton.elim _ _; rfl⟩
    rw [tbl_expert m h p]; exact h.expert _
  · rw [hN]; exact h.low
  · rw [hN]; exact h.high

/-- A tile's expert, and the half of the hidden columns a point's blocks are taken at. -/
abbrev expertOf (pf : pre0.Contents (Elt F)) (i : grid0.Coords) : ℕ := ((pf 0 : S264.Idx → BitVec 32) (Shape.Idx.ofFin (n := 264) (i 0))).toNat
abbrev usedOf (pf : pre0.Contents (Elt F)) : ℕ := (word (pf 1)).toNat
abbrev halfOf (pf : pre0.Contents (Elt F)) (i : grid0.Coords) : ℕ := if (i 0).val < usedOf pf then (i 1).val else 1

theorem at_expert (pf : pre0.Contents (Elt F)) (i : grid0.Coords) :
    (pf.at 0 (Rect.unit (s := S264) ![(Scalar.indexCast (BitVec.ofNat 32 (i 0).val) : BitVec 32).toNat] S1.size (k0_off1_inb i)) numel1_S1 : BitVec 32).toNat = expertOf pf i := by
  refine congrArg (fun x : S264.Idx => ((pf 0 : S264.Idx → BitVec 32) x).toNat) (funext fun (a : Fin 1) => ?_)
  obtain rfl : a = 0 := Subsingleton.elim _ _
  apply Fin.ext
  have hi : (i 0).val < 264 := (i 0).isLt
  have e : (Scalar.indexCast (BitVec.ofNat 32 (i 0).val) : BitVec 32).toNat = (i 0).val := by
    rw [show (Scalar.indexCast (BitVec.ofNat 32 (i 0).val) : BitVec 32) = BitVec.ofNat 32 (i 0).val from rfl]
    exact toNat_small (by omega)
  refine (Rect.emb_apply _ _ _).trans ?_
  have hz : ∀ x : Fin 1, 1 * x.val = 0 := by decide
  exact (congrArg (fun z => (Scalar.indexCast (BitVec.ofNat 32 (i 0).val) : BitVec 32).toNat + z) (hz _)).trans e

theorem at_used (pf : pre0.Contents (Elt F)) :
    (pf.at 1 (Rect.unit (s := S1) ![0] S1.size inb_S1_S1_0) numel1_S1 : BitVec 32) = word (pf 1) :=
  word_eq (pf 1) _

theorem half_word (pf : pre0.Contents (Elt F)) (h : TabOk pf) (i : grid0.Coords) (v : BitVec 32) (hv : v = word (pf 1)) :
    (Scalar.select (Scalar.cmpi .slt (BitVec.ofNat 32 (i 0).val) v) (BitVec.ofNat 32 (i 1).val) 1#32).toNat = halfOf pf i := by
  have hi : (i 0).val < 264 := (i 0).isLt
  have hj : (i 1).val < 2 := (i 1).isLt
  subst hv
  unfold Scalar.cmpi IntOp.cmpi Scalar.select
  simp only [slt_word _ hi _ h.high]
  by_cases hlt : (i 0).val < usedOf pf
  · rw [halfOf, if_pos hlt, decide_eq_true hlt]
    exact toNat_small (by omega)
  · rw [halfOf, if_neg hlt, decide_eq_false hlt]
    rfl

theorem t0_eq (pf : pre0.Contents (Elt F)) (h : TabOk pf) (i : grid0.Coords) :
    cc0_transform_0 inb_S1_S1_0 numel1_S1 pf i = ![min (i 0).val (usedOf pf - 1), 0] := by
  have hi : (i 0).val < 264 := (i 0).isLt
  have key : ∀ v : BitVec 32, v = word (pf 1) → (IntOp.minsi (BitVec.ofNat 32 (i 0).val) (IntOp.subi v 1#32)).toNat = min (i 0).val (usedOf pf - 1) := by
    rintro v rfl
    rw [clamp_word _ hi _ h.low h.high, toNat_small (by omega)]
  exact congrArg (fun a => (![a, 0] : Fin 2 → ℕ)) (key _ (at_used pf))

theorem t1_eq (pf : pre0.Contents (Elt F)) (h : TabOk pf) (i : grid0.Coords) :
    cc0_transform_1 k0_off1_inb numel1_S1 inb_S1_S1_0 pf i = ![expertOf pf i, 0, halfOf pf i] :=
  congrArg₂ (fun a b => (![a, 0, b] : Fin 3 → ℕ)) (at_expert pf i) (half_word pf h i _ (at_used pf))
theorem t2_eq (pf : pre0.Contents (Elt F)) (h : TabOk pf) (i : grid0.Coords) :
    cc0_transform_2 k0_off1_inb numel1_S1 inb_S1_S1_0 pf i = ![expertOf pf i, 0, halfOf pf i] :=
  congrArg₂ (fun a b => (![a, 0, b] : Fin 3 → ℕ)) (at_expert pf i) (half_word pf h i _ (at_used pf))
theorem t3_eq (pf : pre0.Contents (Elt F)) (h : TabOk pf) (i : grid0.Coords) :
    cc0_transform_3 k0_off1_inb numel1_S1 inb_S1_S1_0 pf i = ![expertOf pf i, halfOf pf i, 0] :=
  congrArg₂ (fun a b => (![a, b, 0] : Fin 3 → ℕ)) (at_expert pf i) (half_word pf h i _ (at_used pf))

theorem halfOf_le (pf : pre0.Contents (Elt F)) (i : grid0.Coords) : halfOf pf i ≤ 1 := by
  have hj : (i 1).val < 2 := (i 1).isLt
  unfold halfOf; split <;> omega

/-- Tables in range put every block inside its array. -/
theorem ok_of_tab (pf : pre0.Contents (Elt F)) (h : TabOk pf) : ok0 pf := by
  refine ⟨fun i => ⟨?_, .inl rfl⟩, fun i => ⟨?_, .inr (.inr ⟨by decide, rfl, ?_, rfl⟩)⟩, fun i => ⟨?_, .inr (.inr ⟨by decide, rfl, ?_, rfl⟩)⟩,
    fun i => ⟨?_, .inr (.inl (.inr ⟨by decide, rfl, .inl ⟨?_, ?_⟩⟩))⟩⟩
  · rw [t0_eq pf h i]
    have hi : (i 0).val < 264 := (i 0).isLt
    intro a; fin_cases a
    · show (min (i 0).val (usedOf pf - 1) + 1) * 512 ≤ 135168; omega
    · show (0 + 1) * 1024 ≤ 1024; omega
  · rw [t1_eq pf h i]
    have he : expertOf pf i < 8 := h.expert _
    have hh := halfOf_le pf i
    intro a; fin_cases a
    · show (expertOf pf i + 1) * 1 ≤ 8; omega
    · show (0 + 1) * 1024 ≤ 1024; omega
    · show (halfOf pf i + 1) * 1792 ≤ 3584; omega
  · show cc0_transform_1 k0_off1_inb numel1_S1 inb_S1_S1_0 pf i 1 * 1024 = 0
    rw [t1_eq pf h i]; rfl
  · rw [t2_eq pf h i]
    have he : expertOf pf i < 8 := h.expert _
    have hh := halfOf_le pf i
    intro a; fin_cases a
    · show (expertOf pf i + 1) * 1 ≤ 8; omega
    · show (0 + 1) * 1024 ≤ 1024; omega
    · show (halfOf pf i + 1) * 1792 ≤ 3584; omega
  · show cc0_transform_2 k0_off1_inb numel1_S1 inb_S1_S1_0 pf i 1 * 1024 = 0
    rw [t2_eq pf h i]; rfl
  · rw [t3_eq pf h i]
    have he : expertOf pf i < 8 := h.expert _
    have hh := halfOf_le pf i
    intro a; fin_cases a
    · show (expertOf pf i + 1) * 1 ≤ 8; omega
    · show (halfOf pf i + 1) * 1792 ≤ 3584; omega
    · show (0 + 1) * 1024 ≤ 1024; omega
  · show 2 ∣ cc0_transform_3 k0_off1_inb numel1_S1 inb_S1_S1_0 pf i 1 * 1792
    exact Dvd.dvd.mul_left (by decide) _
  · show 2 ∣ 1792
    decide

theorem ok_of_range (h : InRange (argE m 0) (argN m 0)) : Ok m := ok_of_tab _ (tabOk m h)

end Cert.Moe

end
-- ==== Proof.Moe.Ends.lean ====
/- What the launch ends with. -/
module

public import proofs.«01_k».proof.Proof.Moe.Frame
public import proofs.«01_k».proof.Proof.Moe.Blocks

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frames -/

/-- What the launch ends with: the result the write-backs leave, the arguments as launched, and every counter at zero. -/
theorem ends (hO : Ok m) : θ_run defs (onTc (τ := τ) (main (F := F))) ⟨m, fun _ => 0, ρ⟩ (fun r =>
    (∀ c : Dev nD,
      r.2.mem ((c : Thread nD τ).loc main_v15) = (dats m hO 0 c).arrAt 4 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) := by
  refine (θ_run defs _ _).mono (fun r (h : _ ∧ _) => ⟨fun c => ?_, h.2⟩) (run_main m ρ hO)
  obtain ⟨ha, hr⟩ := h.1 c
  refine ⟨ha 4, ?_, ?_, ?_, ?_, ?_, ?_⟩
  · exact (ha 0).trans (((dats m hO 0 c).arrAt_in 0 rfl _).trans ((A_eq m hO c 0).trans (V_keep m c main_arg0 (by decide))))
  · exact (hr main_arg1 (show main_arg1 ∈ Pipeline.restRefs sig spec0 by decide)).trans (V_keep m c main_arg1 (by decide))
  · exact (hr main_arg2 (show main_arg2 ∈ Pipeline.restRefs sig spec0 by decide)).trans (V_keep m c main_arg2 (by decide))
  · exact (hr main_arg3 (show main_arg3 ∈ Pipeline.restRefs sig spec0 by decide)).trans (V_keep m c main_arg3 (by decide))
  · exact (hr main_arg4 (show main_arg4 ∈ Pipeline.restRefs sig spec0 by decide)).trans (V_keep m c main_arg4 (by decide))
  · exact (hr main_arg5 (show main_arg5 ∈ Pipeline.restRefs sig spec0 by decide)).trans (V_keep m c main_arg5 (by decide))

end Cert.Moe

end
-- ==== Proof.Moe.Same.lean ====
/- The kernel's program and its idealization are one program. -/
module

public import proofs.«01_k».proof.Kernel
public import proofs.«01_k».proof.KernelIdeal
public import proofs.«01_k».proof.Proof.Gen.Kernel.Launch
public import proofs.«01_k».proof.Proof.Gen.KernelIdeal.Launch

@[expose] public section

set_option maxRecDepth 16384

noncomputable section

namespace Cert.Moe

open Idealize.ShloMosaic Idealize.SL.Sem

variable {F : FTy → Type} [FloatOps F]

/-- The bodies are one, -/
theorem body_same : (Cert.Kernel.cc0_moe_grouped_ffn (F := F)) = (Cert.KernelIdeal.cc0_moe_grouped_ffn (F := F)) := by
  unfold Cert.Kernel.cc0_moe_grouped_ffn Cert.KernelIdeal.cc0_moe_grouped_ffn
  rfl

/-- and so are the body tables, -/
theorem table_same : (Cert.Kernel.defs₀ (F := F)) = (Cert.KernelIdeal.defs₀ (F := F)) := by
  unfold Cert.Kernel.defs₀ Cert.KernelIdeal.defs₀
  refine congrArg Defs.onTc (funext fun l => funext fun x => ?_)
  match l, x with
  | 0, (t, s) =>
    dsimp only
    rw [body_same]
    rfl

theorem defs_same : (Cert.Kernel.defs (F := F)) = (Cert.KernelIdeal.defs (F := F)) := by
  unfold Cert.Kernel.defs Cert.KernelIdeal.defs
  exact congrArg (Pipeline.defs Cert.KernelIdeal.pcfgs) table_same

/-- and the host programs. -/
theorem main_same : (Cert.Kernel.main (F := F)) = (Cert.KernelIdeal.main (F := F)) := by
  rw [show (Cert.Kernel.main (F := F)) = _ from funext Cert.Kernel.Gen.main_chain,
    show (Cert.KernelIdeal.main (F := F)) = _ from funext Cert.KernelIdeal.Gen.main_chain]
  rfl

/-- So a run of the one is a run of the other. -/
theorem run_same (s : MemSt Cert.Kernel.nD Cert.Kernel.τ Cert.Kernel.sig (Elt F)) (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]
  exact h

end Cert.Moe

end
-- ==== Proof.Moe.Frames.lean ====
/- The frames of the three programs. -/
module

public import proofs.«01_k».proof.Defs
public import proofs.«01_k».proof.Proof.Moe.Ends
public import proofs.«01_k».proof.Proof.Moe.Same
public import proofs.«01_k».proof.Proof.Gen.ReferenceIdeal.Run
public import Idealize.ShloMosaic.Lib.Quiescent

@[expose] public section

set_option maxRecDepth 16384

noncomputable section

namespace Cert.Moe

open Idealize.ShloMosaic Idealize.SL.Sem

theorem ok_of_ideal (m : (ℓ : Loc Cert.KernelIdeal.nD Cert.KernelIdeal.τ Cert.KernelIdeal.sig) → Buf (Elt Ideal) ℓ)
    (h : Cert.Pre_KernelIdeal (hPre_in_range := Cert.Pre_in_range.Gen.facts) m) : InRange (argE m 0) (argN m 0) :=
  inRange_of_pre _ _ _ _ _ _ (h 0)

theorem ok_of_bits (m : (ℓ : Loc Cert.Kernel.nD Cert.Kernel.τ Cert.Kernel.sig) → Buf (Elt Bits) ℓ)
    (h : Cert.Pre_Kernel (hPre_in_range := Cert.Pre_in_range.Gen.facts) m) : InRange (argE (F := Bits) m 0) (argN (F := Bits) m 0) :=
  inRange_of_pre _ _ _ _ _ _ (h 0)

theorem frame_ideal : Cert.quiescent_KernelIdeal (hKernelIdeal := Cert.KernelIdeal.Gen.facts) (hPre_in_range := Cert.Pre_in_range.Gen.facts) :=
  fun m ρ hp => (θ_run Cert.KernelIdeal.defs _ _).mono (fun _ (h : _ ∧ _) => ⟨fun c => (h.1 c).2, h.2⟩)
    (ends (F := Ideal) m ρ (ok_of_range m (ok_of_ideal m hp)))

theorem frame_kernel : Cert.quiescent_Kernel (hKernel := Cert.Kernel.Gen.facts) (hPre_in_range := Cert.Pre_in_range.Gen.facts) :=
  fun m ρ hp => run_same _ _ ((θ_run Cert.KernelIdeal.defs _ _).mono (fun _ (h : _ ∧ _) => ⟨fun c => (h.1 c).2, h.2⟩)
    (ends (F := Bits) m ρ (ok_of_range (F := Bits) m (ok_of_bits m hp))))

theorem frame_reference : Cert.quiescent_ReferenceIdeal (hReferenceIdeal := Cert.ReferenceIdeal.Gen.facts) (hPre_in_range := Cert.Pre_in_range.Gen.facts) :=
  fun m ρ _ => (θ_run Cert.ReferenceIdeal.defs _ _).mono (fun r h => ⟨fun c => (h c).2, sem_eq_zero_of_no_sems rfl r.2⟩)
    (Cert.ReferenceIdeal.Value.run (F := Ideal) m ρ)

end Cert.Moe

end
-- ==== Proof.Moe.Reads.lean ====
/- Where the windows' blocks lie in their arrays, element by element. -/
module

public import proofs.«01_k».proof.Proof.Moe.Frame
public import proofs.«01_k».proof.Proof.Moe.Blocks
public import Idealize.ShloMosaic.Lib.Pipeline.ValueKit

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the windows read -/

set_option maxHeartbeats 1000000 in
theorem V_gate (c : Dev nD) : V m c main_v0 = truncf .bf16 (m ((c : Thread nD τ).loc main_arg1) : FVec F S8x1024x3584 .f32) bitsLt_bf16_f32 := by
  unfold_abbrev_sides
  after_results

set_option maxHeartbeats 1000000 in
theorem V_up (c : Dev nD) : V m c main_v1 = truncf .bf16 (m ((c : Thread nD τ).loc main_arg2) : FVec F S8x1024x3584 .f32) bitsLt_bf16_f32 := by
  unfold_abbrev_sides
  after_results

set_option maxHeartbeats 1000000 in
theorem V_down (c : Dev nD) : V m c main_v2 = truncf .bf16 (m ((c : Thread nD τ).loc main_arg3) : FVec F S8x3584x1024 .f32) bitsLt_bf16_f32 := by
  unfold_abbrev_sides
  after_results

/-! ## Where a block's elements lie in its array -/

attribute [local irreducible] tbl

theorem emb0 (hO : Ok m) (t : Fin (cfgM m hO).N) (y : S512x1024.Idx) (a : Fin 2) :
    ((((cfgM m hO).win 0).blk t).view.emb y a : ℕ)
      = cc0_transform_0 inb_S1_S1_0 numel1_S1 (tbl m) (grid0.coords t) a * S512x1024.size a + (y a : ℕ) :=
  ValueKit.view_emb_slice_whole_unit_val main_arg0 _ _ _ y a

theorem emb1 (hO : Ok m) (t : Fin (cfgM m hO).N) (y : S1x1024x1792.Idx) (a : Fin 3) :
    ((((cfgM m hO).win 1).blk t).view.emb y a : ℕ)
      = cc0_transform_1 k0_off1_inb numel1_S1 inb_S1_S1_0 (tbl m) (grid0.coords t) a * S1x1024x1792.size a + (y a : ℕ) :=
  ValueKit.view_emb_slice_whole_unit_val main_v0 _ _ _ y a

theorem emb2 (hO : Ok m) (t : Fin (cfgM m hO).N) (y : S1x1024x1792.Idx) (a : Fin 3) :
    ((((cfgM m hO).win 2).blk t).view.emb y a : ℕ)
      = cc0_transform_2 k0_off1_inb numel1_S1 inb_S1_S1_0 (tbl m) (grid0.coords t) a * S1x1024x1792.size a + (y a : ℕ) :=
  ValueKit.view_emb_slice_whole_unit_val main_v1 _ _ _ y a

theorem emb3 (hO : Ok m) (t : Fin (cfgM m hO).N) (y : S1x1792x1024.Idx) (a : Fin 3) :
    ((((cfgM m hO).win 3).blk t).view.emb y a : ℕ)
      = cc0_transform_3 k0_off1_inb numel1_S1 inb_S1_S1_0 (tbl m) (grid0.coords t) a * S1x1792x1024.size a + (y a : ℕ) :=
  ValueKit.view_emb_slice_whole_unit_val main_v2 _ _ _ y a

theorem emb4 (hO : Ok m) (t : Fin (cfgM m hO).N) (y : S512x1024.Idx) (a : Fin 2) :
    ((((cfgM m hO).win 4).blk t).view.emb y a : ℕ)
      = cc0_transform_4 (grid0.coords t) a * S512x1024.size a + (y a : ℕ) :=
  ValueKit.view_emb_slice_whole_unit_val main_v15 _ _ _ y a

end Cert.Moe

end
-- ==== Proof.Moe.Spec.lean ====
/- The routed experts' feed-forward as mathematics over the extended reals: what both programs compute. -/
module

public import Idealize.ShloMosaic.Lib.Pointwise

@[expose] public section

noncomputable section

namespace Cert.Moe

open Idealize.ShloMosaic

/-- A gated hidden unit: `g · sigmoid g · u`. -/
def act (g u : EReal) : EReal := g * Ideal.div 1 (1 + Ideal.exp (-g)) * u

/-- The rows, an expert's two input matrices, and its output matrix, for all experts. -/
abbrev Rows : Type := (⟨2, ![135168, 1024]⟩ : Shape).Idx → EReal
abbrev WIn : Type := (⟨3, ![8, 1024, 3584]⟩ : Shape).Idx → EReal
abbrev WOut : Type := (⟨3, ![8, 3584, 1024]⟩ : Shape).Idx → EReal

/-- Expert `e`'s hidden unit `h` of row `r`. -/
def hid (x : Rows) (wg wu : WIn) (e : Fin 8) (r : Fin 135168) (h : Fin 3584) : EReal :=
  act (∑ k : Fin 1024, x (ix2 r k) * wg (ix3 e k h)) (∑ k : Fin 1024, x (ix2 r k) * wu (ix3 e k h))

/-- Expert `e`'s feed-forward of row `r`, at column `n`. -/
def ffn (x : Rows) (wg wu : WIn) (wd : WOut) (e : Fin 8) (r : Fin 135168) (n : Fin 1024) : EReal :=
  ∑ h : Fin 3584, hid x wg wu e r h * wd (ix3 e h n)

/-- The tile a row lies in: 512 rows to a tile. -/
abbrev tileOf (r : Fin 135168) : Fin 264 := ⟨r.val / 512, by omega⟩

/-- The whole layer: a row in a tile in use goes through its tile's expert; the other rows are zero. -/
def spec (x : Rows) (wg wu : WIn) (wd : WOut) (te : (⟨1, ![264]⟩ : Shape).Idx → BitVec 32) (used : ℕ) : Rows := fun j =>
  if (tileOf (j 0)).val < used then ffn x wg wu wd ⟨min (te (ix1 (tileOf (j 0)))).toNat 7, by omega⟩ (j 0) (j 1) else 0

theorem spec_used (x : Rows) (wg wu : WIn) (wd : WOut) (te : (⟨1, ![264]⟩ : Shape).Idx → BitVec 32) (used : ℕ)
    (r : Fin 135168) (n : Fin 1024) (e : Fin 8) (he : (te (ix1 (tileOf r))).toNat = e.val) (hu : (tileOf r).val < used) :
    spec x wg wu wd te used (ix2 r n) = ffn x wg wu wd e r n := by
  refine (if_pos (show (tileOf r).val < used from hu)).trans ?_
  exact congrArg (fun e => ffn x wg wu wd e r n) (Fin.ext (show min (te (ix1 (tileOf r))).toNat 7 = e.val by omega))

theorem spec_unused (x : Rows) (wg wu : WIn) (wd : WOut) (te : (⟨1, ![264]⟩ : Shape).Idx → BitVec 32) (used : ℕ)
    (r : Fin 135168) (n : Fin 1024) (hu : ¬ (tileOf r).val < used) : spec x wg wu wd te used (ix2 r n) = 0 :=
  if_neg (show ¬ (tileOf r).val < used from hu)

end Cert.Moe

end
-- ==== Proof.Moe.Payload.lean ====
/- The body's arithmetic over the extended reals, at an index. -/
module

public import proofs.«01_k».proof.Proof.Moe.Setup
public import proofs.«01_k».proof.Proof.Moe.Spec

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's arithmetic at an index -/

theorem pay1_at (x : Vec Ideal S512x1024 .f32) (wg wu : Vec Ideal S1x1024x1792 .bf16) (wd : Vec Ideal S1x1792x1024 .bf16)
    (r : Fin 512) (n : Fin 1024) :
    k0_pay1 x wg wu wd (ix2 r n)
      = ∑ h : Fin 1792, act (∑ k : Fin 1024, x (ix2 r k) * wg (ix3 0 k h)) (∑ k : Fin 1024, x (ix2 r k) * wu (ix3 0 k h)) * wd (ix3 0 h n) := by
  have hz : ∀ a : EReal, 0 - a = -a := fun a => by rw [sub_eq_add_neg, zero_add]
  pointwise [k0_pay1, act]
  simp only [hz]

theorem pay2_at (x : Vec Ideal S512x1024 .f32) (wg wu : Vec Ideal S1x1024x1792 .bf16) (wd : Vec Ideal S1x1792x1024 .bf16)
    (o : Vec Ideal S512x1024 .f32) (r : Fin 512) (n : Fin 1024) :
    k0_pay2 x wg wu wd o (ix2 r n) = o (ix2 r n) + k0_pay1 x wg wu wd (ix2 r n) := by
  pointwise [k0_pay2]

theorem pay3_at (r : Fin 512) (n : Fin 1024) : (k0_pay3 : FVec Ideal S512x1024 .f32) (ix2 r n) = 0 := by
  pointwise [k0_pay3]

end Cert.Moe

end
-- ==== Proof.Moe.Tile.lean ====
/- A point of a tile in use: its blocks, and what its half of the hidden columns adds. -/
module

public import proofs.«01_k».proof.Proof.Moe.Reads
public import proofs.«01_k».proof.Proof.Moe.Payload

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of a point of a tile in use -/

attribute [local irreducible] tbl

theorem ofFin_eq (p : Fin 264) : (Shape.Idx.ofFin p : S264.Idx) = ix1 p :=
  funext fun a => by obtain rfl : a = 0 := Subsingleton.elim _ _; rfl

/-- A point's tile, and its half of the hidden columns. -/
theorem point_lt (hO : Ok m) (t : Fin (cfgM m hO).N) : t.val < 528 := Nat.lt_of_lt_of_eq t.isLt N_0
abbrev tileAt (hO : Ok m) (t : Fin (cfgM m hO).N) : Fin 264 := ⟨t.val / 2, by have := point_lt m hO t; omega⟩
abbrev rowAt (hO : Ok m) (t : Fin (cfgM m hO).N) (r : Fin 512) : Fin 135168 :=
  ⟨t.val / 2 * 512 + r.val, by have := point_lt m hO t; omega⟩
abbrev colAt (hO : Ok m) (t : Fin (cfgM m hO).N) (h : Fin 1792) : Fin 3584 := ⟨t.val % 2 * 1792 + h.val, by omega⟩

section
variable (m : (ℓ : Loc nD τ sig) → Buf (Elt Ideal) ℓ)
theorem used_pos : usedOf (tbl m) = (word (argN m 0)).toNat := by unfold usedOf; rw [tbl_used]

variable (hO : Ok m) (hR : InRange (argE m 0) (argN m 0)) (c : Dev nD) (t : Fin (cfgM m hO).N)
variable (hu : t.val / 2 < (word (argN m 0)).toNat) (e : Fin 8) (he : (argE m 0 (ix1 (tileAt m hO t))).toNat = e.val)
include hR hu

theorem half_pt : halfOf (tbl m) (grid0.coords t) = t.val % 2 := by
  unfold halfOf
  rw [used_pos m, coord0, coord1, if_pos hu]

include he in
theorem expert_pt : expertOf (tbl m) (grid0.coords t) = e.val := by
  have h0 : grid0.coords t 0 = tileAt m hO t := Fin.ext (coord0 t)
  unfold expertOf
  rw [h0, tbl_expert m hR]
  have hmin : min (tileAt m hO t).val ((word (argN m 0)).toNat - 1) = (tileAt m hO t).val := by
    show min (t.val / 2) _ = t.val / 2
    omega
  simp only [hmin]
  rw [← he]
  exact congrArg (fun p => (argE m 0 p).toNat) (ofFin_eq _)

theorem rows_at (r : Fin 512) (k : Fin 1024) :
    (iblk m hO c 0 t : S512x1024.Idx → EReal) (ix2 r k) = (m ((c : Thread nD τ).loc main_arg0) : S135168x1024.Idx → EReal) (ix2 (rowAt m hO t r) k) := by
  refine Eq.trans (b := (V m c main_arg0 : S135168x1024.Idx → EReal) ((((cfgM m hO).win 0).blk t).view.emb (ix2 r k))) rfl ?_
  rw [V_keep m c main_arg0 (by decide)]
  refine congrArg (m ((c : Thread nD τ).loc main_arg0) : S135168x1024.Idx → EReal) (funext fun a => Fin.ext ?_)
  refine (emb0 m hO t (ix2 r k) a).trans ?_
  rw [t0_eq _ (tabOk m hR), used_pos m, coord0]
  fin_cases a
  · show min (t.val / 2) _ * 512 + r.val = t.val / 2 * 512 + r.val
    rw [show min (t.val / 2) ((word (argN m 0)).toNat - 1) = t.val / 2 by omega]
  · show 0 * 1024 + k.val = k.val
    omega

include he

theorem gate_at (k : Fin 1024) (h : Fin 1792) :
    (iblk m hO c 1 t : S1x1024x1792.Idx → EReal) (ix3 0 k h)
      = (m ((c : Thread nD τ).loc main_arg1) : S8x1024x3584.Idx → EReal) (ix3 e k (colAt m hO t h)) := by
  refine Eq.trans (b := (V m c main_v0 : S8x1024x3584.Idx → EReal) ((((cfgM m hO).win 1).blk t).view.emb (ix3 0 k h))) rfl ?_
  rw [V_gate m c]
  refine congrArg (m ((c : Thread nD τ).loc main_arg1) : S8x1024x3584.Idx → EReal) (funext fun a => Fin.ext ?_)
  refine (emb1 m hO t (ix3 0 k h) a).trans ?_
  rw [t1_eq _ (tabOk m hR), half_pt m hO hR t hu, expert_pt m hO hR t hu e he]
  fin_cases a
  · show e.val * 1 + 0 = e.val; omega
  · show 0 * 1024 + k.val = k.val; omega
  · rfl

theorem up_at (k : Fin 1024) (h : Fin 1792) :
    (iblk m hO c 2 t : S1x1024x1792.Idx → EReal) (ix3 0 k h)
      = (m ((c : Thread nD τ).loc main_arg2) : S8x1024x3584.Idx → EReal) (ix3 e k (colAt m hO t h)) := by
  refine Eq.trans (b := (V m c main_v1 : S8x1024x3584.Idx → EReal) ((((cfgM m hO).win 2).blk t).view.emb (ix3 0 k h))) rfl ?_
  rw [V_up m c]
  refine congrArg (m ((c : Thread nD τ).loc main_arg2) : S8x1024x3584.Idx → EReal) (funext fun a => Fin.ext ?_)
  refine (emb2 m hO t (ix3 0 k h) a).trans ?_
  rw [t2_eq _ (tabOk m hR), half_pt m hO hR t hu, expert_pt m hO hR t hu e he]
  fin_cases a
  · show e.val * 1 + 0 = e.val; omega
  · show 0 * 1024 + k.val = k.val; omega
  · rfl

theorem down_at (h : Fin 1792) (n : Fin 1024) :
    (iblk m hO c 3 t : S1x1792x1024.Idx → EReal) (ix3 0 h n)
      = (m ((c : Thread nD τ).loc main_arg3) : S8x3584x1024.Idx → EReal) (ix3 e (colAt m hO t h) n) := by
  refine Eq.trans (b := (V m c main_v2 : S8x3584x1024.Idx → EReal) ((((cfgM m hO).win 3).blk t).view.emb (ix3 0 h n))) rfl ?_
  rw [V_down m c]
  refine congrArg (m ((c : Thread nD τ).loc main_arg3) : S8x3584x1024.Idx → EReal) (funext fun a => Fin.ext ?_)
  refine (emb3 m hO t (ix3 0 h n) a).trans ?_
  rw [t3_eq _ (tabOk m hR), half_pt m hO hR t hu, expert_pt m hO hR t hu e he]
  fin_cases a
  · show e.val * 1 + 0 = e.val; omega
  · rfl
  · show 0 * 1024 + n.val = n.val; omega

/-- One half of the hidden columns adds its terms of the feed-forward. -/
theorem part_at (r : Fin 512) (n : Fin 1024) :
    part m hO c t (ix2 r n) = ∑ h : Fin 1792,
      hid (m ((c : Thread nD τ).loc main_arg0)) (m ((c : Thread nD τ).loc main_arg1)) (m ((c : Thread nD τ).loc main_arg2)) e (rowAt m hO t r) (colAt m hO t h)
        * (m ((c : Thread nD τ).loc main_arg3) : S8x3584x1024.Idx → EReal) (ix3 e (colAt m hO t h) n) := by
  refine (pay1_at _ _ _ _ r n).trans (Finset.sum_congr rfl fun h _ => ?_)
  refine congrArg₂ (· * ·) (congrArg₂ act (Finset.sum_congr rfl fun k _ => ?_) (Finset.sum_congr rfl fun k _ => ?_)) (down_at m hO hR c t hu e he h n)
  · exact congrArg₂ (· * ·) (rows_at m hO hR c t hu r k) (gate_at m hO hR c t hu e he k h)
  · exact congrArg₂ (· * ·) (rows_at m hO hR c t hu r k) (up_at m hO hR c t hu e he k h)

end

end Cert.Moe

end
-- ==== Proof.Moe.Value.lean ====
/- The value of the launch: its result array holds the layer's result. -/
module

public import proofs.«01_k».proof.Proof.Moe.Tile

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launch leaves in the result array -/

attribute [local irreducible] tbl

section
variable (m : (ℓ : Loc nD τ sig) → Buf (Elt Ideal) ℓ)
variable (hO : Ok m) (hR : InRange (argE m 0) (argN m 0)) (c : Dev nD) (t : Fin (cfgM m hO).N)

/-- The layer applied to the launch's arguments. -/
abbrev specOf : S135168x1024.Idx → EReal :=
  spec (m ((c : Thread nD τ).loc main_arg0)) (m ((c : Thread nD τ).loc main_arg1)) (m ((c : Thread nD τ).loc main_arg2))
    (m ((c : Thread nD τ).loc main_arg3)) (argE m c) (word (argN m c)).toNat

include hR in
theorem cond_pt : k0_cond1 (grid0.coords t) (word (tbl m 1)) = 1#1 ↔ t.val / 2 < (word (argN m 0)).toNat := by
  rw [cond1_iff, coord0, tbl_used m, slt_word _ (by have := point_lt m hO t; omega) _ hR.high, decide_eq_true_eq]

theorem emb_out (r : Fin 512) (n : Fin 1024) :
    ((((cfgM m hO).win 4).blk t).view.emb (ix2 r n) : S135168x1024.Idx) = ix2 (rowAt m hO t r) n := by
  refine funext fun a => Fin.ext ((emb4 m hO t (ix2 r n) a).trans ?_)
  have ht := point_lt m hO t
  have h0 : cc0_transform_4 (grid0.coords t) = ![t.val / 2, 0] := by
    refine Eq.trans (b := ![(BitVec.ofNat 32 (grid0.coords t 0).val).toNat, 0]) rfl ?_
    rw [toNat_small (by rw [coord0]; omega), coord0]
  rw [h0]
  fin_cases a
  · rfl
  · show 0 * 1024 + n.val = n.val; omega

include hR

theorem tile_of_row (r : Fin 512) : tileOf (rowAt m hO t r) = tileAt m hO t :=
  Fin.ext (show (t.val / 2 * 512 + r.val) / 512 = t.val / 2 by omega)

/-- At a tile's second point the result block holds the tile's rows of the layer. -/
theorem res_at (ht : t.val % 2 = 1) (r : Fin 512) (n : Fin 1024) :
    (res m hO c t : S512x1024.Idx → EReal) (ix2 r n) = specOf m c (ix2 (rowAt m hO t r) n) := by
  obtain rfl : c = 0 := Subsingleton.elim _ _
  by_cases hu : t.val / 2 < (word (argN m 0)).toNat
  · have he8 : (argE m 0 (ix1 (tileAt m hO t))).toNat < 8 := hR.expert _
    have he : (argE m 0 (ix1 (tileAt m hO t))).toNat = (⟨_, he8⟩ : Fin 8).val := rfl
    generalize (⟨_, he8⟩ : Fin 8) = e at he
    have hp2 : (prev m hO t).val / 2 = t.val / 2 := by show (t.val - 1) / 2 = _; omega
    have hup : (prev m hO t).val / 2 < (word (argN m 0)).toNat := by rw [hp2]; exact hu
    have htile : tileAt m hO (prev m hO t) = tileAt m hO t := Fin.ext hp2
    have hep : (argE m 0 (ix1 (tileAt m hO (prev m hO t)))).toNat = e.val := by rw [htile]; exact he
    have hrow : rowAt m hO (prev m hO t) r = rowAt m hO t r := Fin.ext (show (t.val - 1) / 2 * 512 + r.val = t.val / 2 * 512 + r.val by omega)
    have hr : res m hO 0 t = k0_pay2 (iblk m hO 0 0 t) (iblk m hO 0 1 t) (iblk m hO 0 2 t) (iblk m hO 0 3 t) (part m hO 0 (prev m hO t)) := by
      unfold res
      rw [if_pos ((cond_pt m hO hR t).2 hu), if_neg (by omega)]
    refine (congrFun hr _).trans ((pay2_at _ _ _ _ _ r n).trans ?_)
    refine (congrArg₂ (· + ·) (part_at m hO hR 0 (prev m hO t) hup e hep r n) (part_at m hO hR 0 t hu e he r n)).trans ?_
    refine Eq.trans ?_ (spec_used _ _ _ _ (argE m 0) _ (rowAt m hO t r) n e (by rw [tile_of_row m hO hR t r]; exact he)
      (by rw [tile_of_row m hO hR t r]; exact hu)).symm
    unfold ffn
    rw [Fin.sum_univ_two_halves 1792 1792 rfl]
    refine congrArg₂ (· + ·) (Finset.sum_congr rfl fun h _ => ?_) (Finset.sum_congr rfl fun h _ => ?_)
    · have hc : colAt m hO (prev m hO t) h = ⟨h.val, by have := h.isLt; omega⟩ := Fin.ext (show (t.val - 1) % 2 * 1792 + h.val = h.val by omega)
      rw [hc, hrow]
    · have hc : colAt m hO t h = ⟨1792 + h.val, by have := h.isLt; omega⟩ := Fin.ext (show t.val % 2 * 1792 + h.val = 1792 + h.val by omega)
      rw [hc]
  · have hr : res m hO 0 t = (k0_pay3 : FVec Ideal S512x1024 .f32) := by
      unfold res
      rw [if_neg (fun h => hu ((cond_pt m hO hR t).1 h))]
    refine (congrFun hr _).trans ((pay3_at r n).trans ?_)
    exact (spec_unused _ _ _ _ (argE m 0) _ (rowAt m hO t r) n (by rw [tile_of_row m hO hR t r]; exact hu)).symm

theorem final : (dats m hO 0 c).arrAt 4 (cfgM m hO).N = specOf m c := by
  refine (dats m hO 0 c).arrAt_eq_of_emb 4 _ (fun t hf y => ?_) (fun i => ?_)
  · have ht : t.val % 2 = 1 := (flush4 m hO t).1 hf
    obtain ⟨r, n, rfl⟩ : ∃ (r : Fin 512) (n : Fin 1024), y = (ix2 r n : S512x1024.Idx) := ⟨_, _, eq_ix2 (n0 := 512) (n1 := 1024) y⟩
    refine Eq.trans (b := (res m hO c t : S512x1024.Idx → EReal) (ix2 r n)) (congrFun (after_4 m hO c t) (ix2 r n)) ?_
    exact (res_at m hO hR c t ht r n).trans (congrArg (specOf m c) (emb_out m hO t r n).symm)
  · obtain ⟨r, n, rfl⟩ : ∃ (r : Fin 135168) (n : Fin 1024), i = (ix2 r n : S135168x1024.Idx) := ⟨_, _, eq_ix2 (n0 := 135168) (n1 := 1024) i⟩
    have hN : (cfgM m hO).N = 528 := N_0
    let t : Fin (cfgM m hO).N := ⟨r.val / 512 * 2 + 1, by rw [hN]; omega⟩
    refine ⟨t, (flush4 m hO t).2 (show (r.val / 512 * 2 + 1) % 2 = 1 by omega), ?_⟩
    have hm := (((cfgM m hO).win 4).blk t).view.emb_mem_set (ix2 (⟨r.val % 512, by omega⟩ : Fin 512) n : S512x1024.Idx)
    rw [emb_out m hO t] at hm
    have hrow : rowAt m hO t ⟨r.val % 512, by omega⟩ = r := Fin.ext (show (r.val / 512 * 2 + 1) / 2 * 512 + r.val % 512 = r.val by omega)
    rw [hrow] at hm
    exact hm

end

end Cert.Moe

end
-- ==== Proof.Moe.RefTerm.lean ====
/- One expert's contribution in the reference, read at a row and a column. -/
module

public import proofs.«01_k».proof.Proof.Moe.Spec
public import proofs.«01_k».proof.Proof.Gen.ReferenceIdeal

@[expose] public section

set_option maxRecDepth 16384

noncomputable section

namespace Cert.Moe

open Cert.ReferenceIdeal Cert.ReferenceIdeal.Gen Idealize.ShloMosaic

/-- The gate's product with expert `e`'s input matrix. -/
def refGate (x : FVec Ideal S135168x1024 .f32) (wg : FVec Ideal S8x1024x3584 .f32) (e : ℕ)
    (h1 : S8x1024x3584.Slices ![e, 0, 0] S1x1024x3584) : FVec Ideal S135168x3584 .f32 :=
  Host.dotGeneral dot_S135168x1024_S1024x3584_S135168x3584_1_0_0_1_n_n none x
    (shapeCast _ (extractStridedSlice S1x1024x3584 ![e, 0, 0] wg h1) shapeCasts_S1x1024x3584_S1024x3584)

/-- The mask as a number: one where both hold, else zero. -/
theorem mask_eq (u : BitVec 1) (a b : BitVec 32) :
    (FloatOps.uitofp .f32 (IntOp.andi u (IntOp.cmpi .eq a b)) : Ideal .f32) = if u = 1#1 ∧ a = b then (1 : EReal) else 0 := by
  have hand : IntOp.andi u (IntOp.cmpi .eq a b) = if u = 1#1 ∧ a = b then 1#1 else 0#1 := by
    by_cases hab : a = b
    · subst hab
      simp only [IntOp.andi, IntOp.cmpi, beq_self_eq_true, and_true]
      revert u; decide
    · rw [if_neg (fun h => hab h.2)]
      simp only [IntOp.andi, IntOp.cmpi, beq_eq_false_iff_ne.mpr hab]
      revert u; decide
  rw [hand]
  split
  · show (((1#1 : BitVec 1).toNat : ℝ) : EReal) = 1
    norm_num
  · show (((0#1 : BitVec 1).toNat : ℝ) : EReal) = 0
    norm_num

/-- Expert `e`'s contribution: its feed-forward of every row, kept where the row is in use and the expert's own. -/
def refTerm (x : FVec Ideal S135168x1024 .f32) (wu : FVec Ideal S8x1024x3584 .f32) (wd : FVec Ideal S8x3584x1024 .f32)
    (gate : FVec Ideal S135168x3584 .f32) (inUse : IVec S135168 1) (ex : IVec S135168 32) (e : ℕ) (b : BitVec 32)
    (h1 : S8x1024x3584.Slices ![e, 0, 0] S1x1024x3584) (h3 : S8x3584x1024.Slices ![e, 0, 0] S1x3584x1024) : FVec Ideal S135168x1024 .f32 :=
  mulf (broadcastInDim S135168x1024 ![0, 1] bcast_S135168x1_S135168x1024_0_1
      (uitofp .f32 (broadcastInDim S135168x1 ![0] bcast_S135168_S135168x1_0
        (andi inUse (cmpi .eq ex (broadcastInDim S135168 ![] bcast_S_S135168 (constantI S_ 32 b)))))))
    (Host.dotGeneral dot_S135168x3584_S3584x1024_S135168x1024_1_0_0_1_n_n none
      (mulf (mulf gate (Host.divf (broadcastInDim S135168x3584 ![] bcast_S_S135168x3584 (constant S_ .f32 0x3F800000#32))
          (addf (broadcastInDim S135168x3584 ![] bcast_S_S135168x3584 (constant S_ .f32 0x3F800000#32)) (Host.exp (Host.negf gate)))))
        (Host.dotGeneral dot_S135168x1024_S1024x3584_S135168x3584_1_0_0_1_n_n none x
          (shapeCast _ (extractStridedSlice S1x1024x3584 ![e, 0, 0] wu h1) shapeCasts_S1x1024x3584_S1024x3584)))
      (shapeCast _ (extractStridedSlice S1x3584x1024 ![e, 0, 0] wd h3) shapeCasts_S1x3584x1024_S3584x1024))

theorem refTerm_at (x : FVec Ideal S135168x1024 .f32) (wg wu : FVec Ideal S8x1024x3584 .f32) (wd : FVec Ideal S8x3584x1024 .f32)
    (inUse : IVec S135168 1) (ex : IVec S135168 32) (e : ℕ) (he : e < 8) (b : BitVec 32)
    (h1 : S8x1024x3584.Slices ![e, 0, 0] S1x1024x3584) (h3 : S8x3584x1024.Slices ![e, 0, 0] S1x3584x1024) (r : Fin 135168) (n : Fin 1024) :
    refTerm x wu wd (refGate x wg e h1) inUse ex e b h1 h3 (ix2 r n)
      = (if inUse (ix1 r) = 1#1 ∧ ex (ix1 r) = b then 1 else 0) * ffn x wg wu wd ⟨e, he⟩ r n := by
  pointwise [refTerm, refGate, ffn, hid, act]
  rw [mask_eq]

end Cert.Moe

end
-- ==== Proof.Moe.RefValue.lean ====
/- What the reference computes: at every row the feed-forward of the row's own expert. -/
module

public import proofs.«01_k».proof.Proof.Moe.RefTerm
public import proofs.«01_k».proof.Proof.Moe.Pre
public import proofs.«01_k».proof.Proof.Gen.ReferenceIdeal.Run

@[expose] public section

set_option maxRecDepth 16384

noncomputable section

namespace Cert.Moe

open Cert.ReferenceIdeal Cert.ReferenceIdeal.Gen Cert.ReferenceIdeal.Value Idealize.ShloMosaic

/-- Row `p` is below 512 times a small word exactly when its tile is below the word. -/
theorem row_in_use (p : ℕ) (hp : p < 135168) (w : BitVec 32) (h : w.toNat ≤ 264) :
    IntOp.cmpi .slt (BitVec.ofNat 32 p) (IntOp.muli w 512#32) = 1#1 ↔ p / 512 < w.toNat := by
  have hm : (w * 512#32).toNat = w.toNat * 512 := by
    rw [BitVec.toNat_mul]
    exact Nat.mod_eq_of_lt (by simp only [BitVec.toNat_ofNat]; omega)
  have hs : (BitVec.ofNat 32 p).slt (w * 512#32) = decide (p / 512 < w.toNat) := by
    simp only [BitVec.slt]
    rw [StableHlo.Predicate.toInt_ofNat_small _ (by omega), StableHlo.Predicate.toInt_eq_toNat_of_lt (by omega), hm]
    simp only [Nat.cast_lt]
    congr 1
    exact propext (by omega)
  unfold IntOp.cmpi IntOp.muli
  simp only [hs]
  by_cases hlt : p / 512 < w.toNat
  · simp [hlt]
  · simp [hlt]

/-- A row's mask: whether the row's number is below 512 times the number of tiles in use. -/
theorem inUse_at (V0 : Valuation τ sig (Elt Ideal)) (r : Fin 135168) (h : (word (V0 (Proc.devRef .tc main_arg5))).toNat ≤ 264) :
    (res_main_v6 V0 : IVec S135168 1) (ix1 r) = 1#1 ↔ (tileOf r).val < (word (V0 (Proc.devRef .tc main_arg5))).toNat := by
  have hr := r.isLt
  have e1 : (res_main_v6 V0 : IVec S135168 1) (ix1 r)
      = IntOp.cmpi .slt (BitVec.ofNat 32 r.val) (IntOp.muli (word (V0 (Proc.devRef .tc main_arg5))) 512#32) := by
    pointwise [res_main_v6]
    exact congrArg (fun v => IntOp.cmpi .slt (BitVec.ofNat 32 r.val) (IntOp.muli v 512#32)) (word_eq (V0 (Proc.devRef .tc main_arg5)) (ix1 0))
  rw [e1]
  exact row_in_use _ hr _ h

/-- A row's expert is its tile's. -/
theorem expert_at (V0 : Valuation τ sig (Elt Ideal)) (r : Fin 135168) :
    (res_main_v1 V0 : IVec S135168 32) (ix1 r) = (V0 (Proc.devRef .tc main_arg4) : IVec S264 32) (ix1 (tileOf r)) := by
  pointwise [res_main_v1]

/-- The reference's result is the sum of the experts' contributions, from zero. -/
theorem res_eq (V0 : Valuation τ sig (Elt Ideal)) :
    res_main_v159 V0 =
      (let x := (V0 (Proc.devRef .tc main_arg0) : FVec Ideal S135168x1024 .f32)
      let wg := (V0 (Proc.devRef .tc main_arg1) : FVec Ideal S8x1024x3584 .f32)
      let wu := (V0 (Proc.devRef .tc main_arg2) : FVec Ideal S8x1024x3584 .f32)
      let wd := (V0 (Proc.devRef .tc main_arg3) : FVec Ideal S8x3584x1024 .f32)
      let t := fun e b h1 h3 => refTerm x wu wd (refGate x wg e h1) (res_main_v6 V0) (res_main_v1 V0) e b h1 h3
      addf (addf (addf (addf (addf (addf (addf (addf (broadcastInDim S135168x1024 ![] bcast_S_S135168x1024 (constant S_ .f32 0x00000000#32))
        (t 0 0#32 slices_S8x1024x3584_S1x1024x3584_0_0_0 slices_S8x3584x1024_S1x3584x1024_0_0_0))
        (t 1 1#32 slices_S8x1024x3584_S1x1024x3584_1_0_0 slices_S8x3584x1024_S1x3584x1024_1_0_0))
        (t 2 2#32 slices_S8x1024x3584_S1x1024x3584_2_0_0 slices_S8x3584x1024_S1x3584x1024_2_0_0))
        (t 3 3#32 slices_S8x1024x3584_S1x1024x3584_3_0_0 slices_S8x3584x1024_S1x3584x1024_3_0_0))
        (t 4 4#32 slices_S8x1024x3584_S1x1024x3584_4_0_0 slices_S8x3584x1024_S1x3584x1024_4_0_0))
        (t 5 5#32 slices_S8x1024x3584_S1x1024x3584_5_0_0 slices_S8x3584x1024_S1x3584x1024_5_0_0))
        (t 6 6#32 slices_S8x1024x3584_S1x1024x3584_6_0_0 slices_S8x3584x1024_S1x3584x1024_6_0_0))
        (t 7 7#32 slices_S8x1024x3584_S1x1024x3584_7_0_0 slices_S8x3584x1024_S1x3584x1024_7_0_0) : FVec Ideal S135168x1024 .f32) := rfl

/-- The reference's result is the layer's, on tables in range. -/
theorem ref_value (V0 : Valuation τ sig (Elt Ideal)) (h : InRange (V0 (Proc.devRef .tc main_arg4)) (V0 (Proc.devRef .tc main_arg5))) :
    res_main_v159 V0 = spec (V0 (Proc.devRef .tc main_arg0)) (V0 (Proc.devRef .tc main_arg1)) (V0 (Proc.devRef .tc main_arg2))
      (V0 (Proc.devRef .tc main_arg3)) (V0 (Proc.devRef .tc main_arg4)) (word (V0 (Proc.devRef .tc main_arg5))).toNat := by
  rw [res_eq]
  funext j
  obtain ⟨r, n, rfl⟩ : ∃ (r : Fin 135168) (n : Fin 1024), j = ix2 r n := ⟨j 0, j 1, eq_ix2 j⟩
  pointwise []
  simp only [refTerm_at _ _ _ _ _ _ _ (by decide : 0 < 8), refTerm_at _ _ _ _ _ _ _ (by decide : 1 < 8),
    refTerm_at _ _ _ _ _ _ _ (by decide : 2 < 8), refTerm_at _ _ _ _ _ _ _ (by decide : 3 < 8),
    refTerm_at _ _ _ _ _ _ _ (by decide : 4 < 8), refTerm_at _ _ _ _ _ _ _ (by decide : 5 < 8),
    refTerm_at _ _ _ _ _ _ _ (by decide : 6 < 8), refTerm_at _ _ _ _ _ _ _ (by decide : 7 < 8),
    inUse_at V0 r h.high, expert_at V0 r]
  by_cases hu : (tileOf r).val < (word (V0 (Proc.devRef .tc main_arg5))).toNat
  · have he := h.expert (ix1 (tileOf r))
    generalize hw : (V0 (Proc.devRef .tc main_arg4) : IVec S264 32) (ix1 (tileOf r)) = w at he ⊢
    have hs := fun e : Fin 8 => fun heq => spec_used (V0 (Proc.devRef .tc main_arg0)) (V0 (Proc.devRef .tc main_arg1)) (V0 (Proc.devRef .tc main_arg2))
      (V0 (Proc.devRef .tc main_arg3)) (V0 (Proc.devRef .tc main_arg4)) _ r n e heq hu
    rw [hw] at hs
    obtain ⟨k, hk, rfl⟩ : ∃ k, k < 8 ∧ w = BitVec.ofNat 32 k := ⟨w.toNat, he, by simp⟩
    rw [hs ⟨k, hk⟩ (by simp only [BitVec.toNat_ofNat]; omega)]
    interval_cases k <;> simp [hu]
  · rw [spec_unused _ _ _ _ _ _ _ _ hu]
    simp [hu]

/-- The same on named arguments. -/
theorem ref_value_of (V0 : Valuation τ sig (Elt Ideal)) (x : Rows) (wg wu : WIn) (wd : WOut) (te : IVec S264 32) (nu : IVec S1 32)
    (h0 : V0 (Proc.devRef .tc main_arg0) = x) (h1 : V0 (Proc.devRef .tc main_arg1) = wg) (h2 : V0 (Proc.devRef .tc main_arg2) = wu)
    (h3 : V0 (Proc.devRef .tc main_arg3) = wd) (h4 : V0 (Proc.devRef .tc main_arg4) = te) (h5 : V0 (Proc.devRef .tc main_arg5) = nu)
    (h : InRange te nu) : res_main_v159 V0 = spec x wg wu wd te (word nu).toNat := by
  subst h0 h1 h2 h3 h4 h5
  exact ref_value V0 h

end Cert.Moe

end
-- ==== Proof.Moe.Algebraic.lean ====
/- The kernel and the reference, on equal arguments, end with equal results. -/
module

public import proofs.«01_k».proof.Proof.Moe.Frames
public import proofs.«01_k».proof.Proof.Moe.Value
public import proofs.«01_k».proof.Proof.Moe.RefValue

@[expose] public section

set_option maxRecDepth 16384

noncomputable section

namespace Cert.Moe

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hp hargs
  have hR := ok_of_ideal m hp
  have hO := ok_of_range m hR
  refine ⟨fun c => specOf m c, ?_, ?_⟩
  · refine (θ_run Cert.KernelIdeal.defs _ _).mono (fun r h c => ?_) (ends (F := Ideal) m g hO)
    exact ⟨(h.1 c).1.trans (final m hO hR c), (h.1 c).2⟩
  · refine (θ_run Cert.ReferenceIdeal.defs _ _).mono (fun r h c => ?_) (Cert.ReferenceIdeal.Value.run (F := Ideal) m' g')
    refine ⟨(h c).1.trans ?_, (h c).2⟩
    obtain ⟨h0, h1, h2, h3, h4, h5⟩ := hargs c
    obtain rfl : c = (0 : Dev Cert.KernelIdeal.nD) := Subsingleton.elim _ _
    exact ref_value_of _ _ _ _ _ _ _ h0 h1 h2 h3 h4 h5 hR

end Cert.Moe

end
-- ==== Proof.Dense.RefTerm.lean ====
/- The reference's terms: the dense feed-forward of the rows, and the norm of rows. -/
module

public import proofs.«01_k».proof.Proof.Gen.Reference2Ideal
public import Idealize.ShloMosaic.Lib.Pointwise

@[expose] public section

set_option maxRecDepth 16384

noncomputable section

namespace Cert.Dense

open Cert.Reference2Ideal Cert.Reference2Ideal.Gen Idealize.ShloMosaic

/-- The rows times a constant, plus their gated feed-forward. -/
def residual (x : FVec Ideal S65536x1024 .f32) (wg wu : FVec Ideal S1024x2816 .f32) (wd : FVec Ideal S2816x1024 .f32) :
    FVec Ideal S65536x1024 .f32 :=
  addf (mulf (broadcastInDim S65536x1024 ![] bcast_S_S65536x1024 (constant S_ .f32 0x3FD744FD#32)) x)
    (Host.dotGeneral dot_S65536x2816_S2816x1024_S65536x1024_1_0_0_1_n_n none
      (mulf (mulf (Host.dotGeneral dot_S65536x1024_S1024x2816_S65536x2816_1_0_0_1_n_n none x wg)
          (Host.divf (broadcastInDim S65536x2816 ![] bcast_S_S65536x2816 (constant S_ .f32 0x3F800000#32))
            (addf (broadcastInDim S65536x2816 ![] bcast_S_S65536x2816 (constant S_ .f32 0x3F800000#32))
              (Host.exp (Host.negf (Host.dotGeneral dot_S65536x1024_S1024x2816_S65536x2816_1_0_0_1_n_n none x wg))))))
        (Host.dotGeneral dot_S65536x1024_S1024x2816_S65536x2816_1_0_0_1_n_n none x wu)) wd)

/-- A row's mean, as a column. -/
def mean (v : FVec Ideal S65536x1024 .f32) : FVec Ideal S65536x1 .f32 :=
  Host.divf (broadcastInDim S65536x1 ![0] bcast_S65536_S65536x1_0
      (Host.reduceAdd v (constant S_ .f32 0x00000000#32) reducesTo_S65536x1024_S65536_d1 h_S_))
    (broadcastInDim S65536x1 ![] bcast_S_S65536x1 (constant S_ .f32 0x44800000#32))

/-- The rows less their means. -/
def centered (v : FVec Ideal S65536x1024 .f32) : FVec Ideal S65536x1024 .f32 :=
  subf v (broadcastInDim S65536x1024 ![0, 1] bcast_S65536x1_S65536x1024_0_1 (mean v))

/-- The norm of the rows, with its gain and offset. -/
def layerNorm (v : FVec Ideal S65536x1024 .f32) (g b : FVec Ideal S1024 .f32) : FVec Ideal S65536x1024 .f32 :=
  addf (mulf (mulf (centered v) (broadcastInDim S65536x1024 ![0, 1] bcast_S65536x1_S65536x1024_0_1
        (Host.rsqrt (addf (mean (mulf (centered v) (centered v)))
          (broadcastInDim S65536x1 ![] bcast_S_S65536x1 (constant S_ .f32 0x3727C5AC#32))))))
      (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

end Cert.Dense

end
-- ==== Proof.Dense.Value.lean ====
/- The dense feed-forward with its norm: the kernel's result array is the reference's term of the arguments. -/
module

public import proofs.«01_k».proof.Proof.Gen.Kernel2Ideal.Value
public import proofs.«01_k».proof.Proof.Dense.RefTerm
public import Idealize.ShloMosaic.Lib.Pipeline.ValueKit

@[expose] public section

set_option maxRecDepth 16384

noncomputable section

namespace Cert.Dense

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- Which blocks a grid point reads and writes: the row block of its number, and the other arrays whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem final (c : Dev nD) : (dats m 0 c).arrAt 6 cfg0.N
    = layerNorm (residual (m ((c : Thread nD τ).loc main_arg0)) (m ((c : Thread nD τ).loc main_arg1))
        (m ((c : Thread nD τ).loc main_arg2)) (m ((c : Thread nD τ).loc main_arg3)))
      (m ((c : Thread nD τ).loc main_arg4)) (m ((c : Thread nD τ).loc main_arg5)) := by
  refine (dats m 0 c).arrAt_eq_of_covers 6 _ (by decide +kernel) fun t _ y => ?_
  blk_simp
  rw [after0_6]
  frame_out
  pointwise [k0_pay1, k0_pay2, k0_pay3, k0_pay4, k0_pay5, layerNorm, mean, centered, residual]
  have hz : ∀ a : EReal, 0 - a = -a := fun a => by rw [sub_eq_add_neg, zero_add]
  simp only [hz]
  blk_point [iblk, V, idx t]

end Cert.Dense

end
-- ==== Proof.Dense.Claims.lean ====
/- The claims about the dense feed-forward with its norm. -/
module

public import proofs.«01_k».proof.Defs
public import proofs.«01_k».proof.Proof.Dense.Value
public import proofs.«01_k».proof.Proof.Gen.Kernel2.Frame
public import proofs.«01_k».proof.Proof.Gen.Reference2Ideal.Run

@[expose] public section

set_option maxRecDepth 16384

noncomputable section

namespace Cert.Dense

open Idealize.ShloMosaic Idealize.ShloMosaic.TcCoe Idealize.SL.Sem

theorem frame_kernel : Cert.quiescent_Kernel2 (hKernel2 := Cert.Kernel2.Gen.facts) := fun m ρ _ => Cert.Kernel2.Gen.frame m ρ

theorem frame_ideal : Cert.quiescent_Kernel2Ideal (hKernel2Ideal := Cert.Kernel2Ideal.Gen.facts) := fun m ρ _ =>
  Cert.Kernel2Ideal.Gen.frame m ρ

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩)
    (Cert.Reference2Ideal.Value.run (F := Ideal) m ρ)

/-- The reference's result, on named arguments. -/
theorem ref_value (m' : (ℓ : Loc Cert.Reference2Ideal.nD Cert.Reference2Ideal.τ Cert.Reference2Ideal.sig) → Buf (Elt Ideal) ℓ)
    (c : Dev Cert.Reference2Ideal.nD) : Cert.Reference2Ideal.Value.res_out0 m' c
      = layerNorm (residual (m' ((c.tc : Thread _ _).loc Cert.Reference2Ideal.main_arg0)) (m' ((c.tc : Thread _ _).loc Cert.Reference2Ideal.main_arg1))
          (m' ((c.tc : Thread _ _).loc Cert.Reference2Ideal.main_arg2)) (m' ((c.tc : Thread _ _).loc Cert.Reference2Ideal.main_arg3)))
        (m' ((c.tc : Thread _ _).loc Cert.Reference2Ideal.main_arg4)) (m' ((c.tc : Thread _ _).loc Cert.Reference2Ideal.main_arg5)) := rfl

theorem algebraic : Cert.algebraic_Kernel2Ideal_Reference2Ideal (hKernel2Ideal := Cert.Kernel2Ideal.Gen.facts)
    (hReference2Ideal := Cert.Reference2Ideal.Gen.facts) := by
  intro m g m' g' _ hargs
  refine ⟨_, (θ_run Cert.Kernel2Ideal.defs _ _).mono (fun r h c => ⟨(h c).1.trans (final m c), (h c).2⟩)
    (Cert.Kernel2Ideal.Value.run_blocks (F := Ideal) m g), ?_⟩
  refine (θ_run Cert.Reference2Ideal.defs _ _).mono (fun r h c => ?_) (Cert.Reference2Ideal.Value.run (F := Ideal) m' g')
  refine ⟨(h c).1.trans ((ref_value m' c).trans ?_), (h c).2⟩
  obtain ⟨h0, h1, h2, h3, h4, h5⟩ := hargs c
  obtain rfl : c = (0 : Dev Cert.Kernel2Ideal.nD) := Subsingleton.elim _ _
  refine (congrFun (congrFun (congrArg layerNorm ?_) _) _).trans ((congrArg₂ (layerNorm _) h4 h5))
  exact (congrFun (congrFun (congrArg₂ residual h0 h1) _) _).trans (congrArg₂ (residual _ _) h2 h3)
end Cert.Dense

end
-- ==== Proof.Proj.Value.lean ====
/- The input projection: the kernel's result array is the product of the rows with the matrix. -/
module

public import proofs.«01_k».proof.Proof.Gen.Kernel3Ideal.Value
public import proofs.«01_k».proof.Proof.Gen.Reference3Ideal
public import Idealize.ShloMosaic.Lib.Pipeline.ValueKit

@[expose] public section

set_option maxRecDepth 16384

noncomputable section

namespace Cert.Proj

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The product of all rows with the whole matrix. -/
def product (x : FVec Ideal S65536x1024 .f32) (w : FVec Ideal Cert.Reference3Ideal.S1024x2304 .f32) : FVec Ideal S65536x2304 .f32 :=
  Host.dotGeneral Cert.Reference3Ideal.dot_S65536x1024_S1024x2304_S65536x2304_1_0_0_1_n_n none x w

/-- Which blocks a grid point reads and writes: the row block of its number, and the whole matrix. -/
theorem idx : ∀ t : Fin cfg0.N, win0_0.index t = ![t.val, 0] ∧ win0_1.index t = ![0, 0] ∧ win0_2.index t = ![t.val, 0] :=
  (by decide +kernel : ∀ t : Fin grid0.N, _)

/-- What a point leaves at an index of its block is the product at the index's place in the array. -/
theorem point (c : Dev nD) (t : Fin cfg0.N) (y : S512x2304.Idx) :
    out0_2 (iblk m c 0 t) (iblk m c 1 t) y
      = product (m ((c : Thread nD τ).loc main_arg0)) (m ((c : Thread nD τ).loc main_arg1)) (((cfg0.win 2).blk t).view.emb y) := by
  canon_tiles x h
  all_goals (pointwise [k0_pay1, k0_pay2, k0_pay3, k0_pay4, product]; blk_point [iblk, V, idx t])

theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Proj

end
-- ==== Proof.Proj.Claims.lean ====
/- The claims about the input projection. -/
module

public import proofs.«01_k».proof.Defs
public import proofs.«01_k».proof.Proof.Proj.Value
public import proofs.«01_k».proof.Proof.Gen.Kernel3.Frame
public import proofs.«01_k».proof.Proof.Gen.Reference3Ideal.Run

@[expose] public section

set_option maxRecDepth 16384

noncomputable section

namespace Cert.Proj

open Idealize.ShloMosaic Idealize.ShloMosaic.TcCoe Idealize.SL.Sem

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ =>
  Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems rfl r.2⟩)
    (Cert.Reference3Ideal.Value.run (F := Ideal) m ρ)

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨_, (θ_run Cert.Kernel3Ideal.defs _ _).mono (fun r h c => ⟨(h c).1.trans (final m c), (h c).2⟩)
    (Cert.Kernel3Ideal.Value.run_blocks (F := Ideal) m g), ?_⟩
  refine (θ_run Cert.Reference3Ideal.defs _ _).mono (fun r h c => ?_) (Cert.Reference3Ideal.Value.run (F := Ideal) m' g')
  refine ⟨(h c).1.trans ?_, (h c).2⟩
  obtain ⟨h0, h1⟩ := hargs c
  obtain rfl : c = (0 : Dev Cert.Kernel3Ideal.nD) := Subsingleton.elim _ _
  exact congrArg₂ product h0 h1
end Cert.Proj

end
-- ==== Proof.Out.RefTerm.lean ====
/- The reference's term: the four groups' outputs side by side times the matrix, and the same a group at a time. -/
module

public import proofs.«01_k».proof.Proof.Gen.Reference4Ideal
public import proofs.«01_k».proof.Proof.Dense.RefTerm
public import Idealize.ShloMosaic.Lib.Pointwise

@[expose] public section

set_option maxRecDepth 16384

noncomputable section

namespace Cert.Out

open Cert.Reference4Ideal Cert.Reference4Ideal.Gen
open Idealize.ShloMosaic

/-- The rows times a constant, plus the four groups' outputs side by side times the matrix. -/
def residual (ya yb yc yd : FVec Ideal S65536x256 .f32) (x : FVec Ideal S65536x1024 .f32) (w : FVec Ideal S1024x1024 .f32) :
    FVec Ideal S65536x1024 .f32 :=
  addf (mulf (broadcastInDim S65536x1024 ![] bcast_S_S65536x1024 (constant S_ .f32 0x3FD744FD#32)) x)
    (Host.dotGeneral dot_S65536x1024_S1024x1024_S65536x1024_1_0_0_1_n_n none
      (concatenate S65536x1024 1 [⟨S65536x256, ya⟩, ⟨S65536x256, yb⟩, ⟨S65536x256, yc⟩, ⟨S65536x256, yd⟩]
        concatenates_S65536x256_S65536x256_S65536x256_S65536x256_S65536x1024_d1) w)

/-- A sum over 1024 terms, a quarter at a time. -/
theorem sum_quarters (f : Fin 1024 → EReal) :
    ∑ k, f k = (∑ k : Fin 256, f ⟨k.val, by omega⟩) + (∑ k : Fin 256, f ⟨256 + k.val, by omega⟩)
      + (∑ k : Fin 256, f ⟨512 + k.val, by omega⟩) + (∑ k : Fin 256, f ⟨768 + k.val, by omega⟩) := by
  rw [show ∑ k, f k = ∑ k : Fin (256 + 256 + 256 + 256), f ⟨k.val, k.isLt⟩ from rfl, Fin.sum_univ_add, Fin.sum_univ_add, Fin.sum_univ_add]
  rfl

/-- The same with the product taken a group at a time, over the group's block of rows of the matrix. -/
def grouped (ya yb yc yd : FVec Ideal S65536x256 .f32) (x : FVec Ideal S65536x1024 .f32) (w : FVec Ideal S1024x1024 .f32) :
    FVec Ideal S65536x1024 .f32 := fun j =>
  Ideal.ofBits .f32 0x3FD744FD#32 * x (ix2 (j 0) (j 1))
    + ((∑ k : Fin 256, ya (ix2 (j 0) k) * w (ix2 ⟨k.val, by omega⟩ (j 1))) + (∑ k : Fin 256, yb (ix2 (j 0) k) * w (ix2 ⟨256 + k.val, by omega⟩ (j 1)))
      + (∑ k : Fin 256, yc (ix2 (j 0) k) * w (ix2 ⟨512 + k.val, by omega⟩ (j 1))) + (∑ k : Fin 256, yd (ix2 (j 0) k) * w (ix2 ⟨768 + k.val, by omega⟩ (j 1))))

/-- The joined groups' product with the matrix is the sum of the groups' products with its row blocks. -/
theorem residual_eq (ya yb yc yd : FVec Ideal S65536x256 .f32) (x : FVec Ideal S65536x1024 .f32) (w : FVec Ideal S1024x1024 .f32) :
    residual ya yb yc yd x w = grouped ya yb yc yd x w := by
  funext j
  obtain ⟨r, n, rfl⟩ : ∃ (r : Fin 65536) (n : Fin 1024), j = ix2 r n := ⟨j 0, j 1, eq_ix2 j⟩
  pointwise [residual]
  rw [sum_quarters]
  refine congrArg (_ + ·) (congrArg₂ (· + ·) (congrArg₂ (· + ·) (congrArg₂ (· + ·) ?_ ?_) ?_) ?_)
  all_goals refine Finset.sum_congr rfl fun k _ => congrArg (· * _) ?_
  · exact dif_pos k.isLt
  · refine (dif_neg (show ¬ 256 + k.val < 256 by omega)).trans ((dif_pos (show 256 + k.val - 256 < 256 by omega)).trans ?_)
    exact congrArg (fun q => yb (ix2 r q)) (Fin.ext (show 256 + k.val - 256 = k.val by omega))
  · refine (dif_neg (show ¬ 512 + k.val < 256 by omega)).trans ((dif_neg (show ¬ 512 + k.val - 256 < 256 by omega)).trans
      ((dif_pos (show 512 + k.val - 256 - 256 < 256 by omega)).trans ?_))
    exact congrArg (fun q => yc (ix2 r q)) (Fin.ext (show 512 + k.val - 256 - 256 = k.val by omega))
  · refine (dif_neg (show ¬ 768 + k.val < 256 by omega)).trans ((dif_neg (show ¬ 768 + k.val - 256 < 256 by omega)).trans
      ((dif_neg (show ¬ 768 + k.val - 256 - 256 < 256 by omega)).trans ?_))
    exact congrArg (fun q => yd (ix2 r q)) (Fin.ext (show 768 + k.val - 256 - 256 - 256 = k.val by omega))

end Cert.Out

end
-- ==== Proof.Out.Value.lean ====
/- The output projection with its norm: the kernel's result array is the reference's term of the arguments. -/
module

public import proofs.«01_k».proof.Proof.Gen.Kernel4Ideal.Value
public import proofs.«01_k».proof.Proof.Out.RefTerm
public import Idealize.ShloMosaic.Lib.Pipeline.ValueKit

@[expose] public section

set_option maxRecDepth 16384

noncomputable section

namespace Cert.Out

open Cert.Kernel4Ideal Cert.Kernel4Ideal.Gen
open Idealize.ShloMosaic Idealize.ShloMosaic.TcCoe Idealize.SL.Sem
open Idealize.ShloMosaic.Pipeline (Dat)
open Cert.Dense (layerNorm mean centered)

/-- Which blocks a grid point reads and writes: the row block of its number, and the other arrays whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

variable (m : (ℓ : Loc nD τ sig) → Buf (Elt Ideal) ℓ)

theorem final (c : Dev nD) : (dats m 0 c).arrAt 8 cfg0.N
    = layerNorm (residual (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)))
      (m ((c : Thread nD τ).loc main_arg6)) (m ((c : Thread nD τ).loc main_arg7)) := by
  rw [residual_eq]
  refine (dats m 0 c).arrAt_eq_of_covers 8 _ (by decide +kernel) fun t _ y => ?_
  blk_simp
  rw [after0_8]
  frame_out
  pointwise [k0_pay1, k0_pay2, layerNorm, mean, centered, k0_pay3, k0_pay4, grouped]
  blk_point [iblk, V, idx t]

end Cert.Out

end
-- ==== Proof.Out.Claims.lean ====
/- The claims about the output projection with its norm. -/
module

public import proofs.«01_k».proof.Defs
public import proofs.«01_k».proof.Proof.Out.Value
public import proofs.«01_k».proof.Proof.Gen.Kernel4.Frame
public import proofs.«01_k».proof.Proof.Gen.Reference4Ideal.Run

@[expose] public section

set_option maxRecDepth 16384

noncomputable section

namespace Cert.Out

open Idealize.ShloMosaic Idealize.ShloMosaic.TcCoe Idealize.SL.Sem

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ =>
  Cert.Kernel4Ideal.Gen.frame m ρ

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩)
    (Cert.Reference4Ideal.Value.run (F := Ideal) m ρ)

/-- The reference's result, on named arguments. -/
theorem ref_value (m' : (ℓ : Loc Cert.Reference4Ideal.nD Cert.Reference4Ideal.τ Cert.Reference4Ideal.sig) → Buf (Elt Ideal) ℓ)
    (c : Dev Cert.Reference4Ideal.nD) : Cert.Reference4Ideal.Value.res_out0 m' c
      = Cert.Dense.layerNorm (residual (m' ((c.tc : Thread _ _).loc Cert.Reference4Ideal.main_arg0)) (m' ((c.tc : Thread _ _).loc Cert.Reference4Ideal.main_arg1))
          (m' ((c.tc : Thread _ _).loc Cert.Reference4Ideal.main_arg2)) (m' ((c.tc : Thread _ _).loc Cert.Reference4Ideal.main_arg3))
          (m' ((c.tc : Thread _ _).loc Cert.Reference4Ideal.main_arg4)) (m' ((c.tc : Thread _ _).loc Cert.Reference4Ideal.main_arg5)))
        (m' ((c.tc : Thread _ _).loc Cert.Reference4Ideal.main_arg6)) (m' ((c.tc : Thread _ _).loc Cert.Reference4Ideal.main_arg7)) := rfl

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨_, (θ_run Cert.Kernel4Ideal.defs _ _).mono (fun r h c => ⟨(h c).1.trans (final m c), (h c).2⟩)
    (Cert.Kernel4Ideal.Value.run_blocks (F := Ideal) m g), ?_⟩
  refine (θ_run Cert.Reference4Ideal.defs _ _).mono (fun r h c => ?_) (Cert.Reference4Ideal.Value.run (F := Ideal) m' g')
  refine ⟨(h c).1.trans ((ref_value m' c).trans ?_), (h c).2⟩
  obtain ⟨h0, h1, h2, h3, h4, h5, h6, h7⟩ := hargs c
  obtain rfl : c = (0 : Dev Cert.Kernel4Ideal.nD) := Subsingleton.elim _ _
  refine (congrFun (congrFun (congrArg Cert.Dense.layerNorm ?_) _) _).trans ((congrArg₂ (Cert.Dense.layerNorm _) h6 h7))
  refine (congrFun (congrFun (congrFun (congrFun (congrArg₂ residual h0 h1) _) _) _) _).trans ?_
  exact (congrFun (congrFun (congrArg₂ (residual _ _) h2 h3) _) _).trans (congrArg₂ (residual _ _ _ _) h4 h5)
end Cert.Out

end
-- ==== Proof.Route.Top.lean ====
/- Eight scores, the greatest of them and the greatest of the rest, an earlier position first where two are equal: the two
   places, that they exist, and the two ways of finding them that the programs use, by maxima and minima over lanes and by
   a stable sort. -/
module

public import Idealize.ShloMosaic.Lib.SortPrefix
public import Mathlib.Data.EReal.Basic
public import Mathlib.Data.Finset.Lattice.Fold

@[expose] public section

noncomputable section

namespace Cert.Route

open Idealize.ShloMosaic

/-- `p` is the first place of the greatest score, and `q` the first place of the greatest of the others. -/
structure IsTop (f : Fin 8 → EReal) (p q : Fin 8) : Prop where
  le : ∀ e, f e ≤ f p
  least : ∀ e, f e = f p → p ≤ e
  ne : q ≠ p
  le' : ∀ e, e ≠ p → f e ≤ f q
  least' : ∀ e, e ≠ p → f e = f q → q ≤ e

/-- Among finitely many places there is a first one of the greatest score. -/
theorem exists_first (f : Fin 8 → EReal) (s : Finset (Fin 8)) (hs : s.Nonempty) :
    ∃ p ∈ s, ∀ e ∈ s, f e ≤ f p ∧ (f e = f p → p ≤ e) := by
  obtain ⟨a, ha, hmax⟩ := s.exists_max_image f hs
  have hne : (s.filter fun e => f e = f a).Nonempty := ⟨a, Finset.mem_filter.2 ⟨ha, rfl⟩⟩
  obtain ⟨p, hp, hmin⟩ := (s.filter fun e => f e = f a).exists_min_image id hne
  obtain ⟨hps, hpa⟩ := Finset.mem_filter.1 hp
  exact ⟨p, hps, fun e he => ⟨(hmax e he).trans hpa.ge, fun h => hmin e (Finset.mem_filter.2 ⟨he, h.trans hpa⟩)⟩⟩

theorem exists_top (f : Fin 8 → EReal) : ∃ pq : Fin 8 × Fin 8, IsTop f pq.1 pq.2 := by
  obtain ⟨p, -, hp⟩ := exists_first f Finset.univ ⟨0, Finset.mem_univ _⟩
  obtain ⟨q, hqs, hq⟩ := exists_first f (Finset.univ.erase p) (by
    rw [← Finset.card_pos, Finset.card_erase_of_mem (Finset.mem_univ _)]; decide)
  exact ⟨(p, q), fun e => (hp e (Finset.mem_univ _)).1, fun e => (hp e (Finset.mem_univ _)).2, Finset.ne_of_mem_erase hqs,
    fun e he => (hq e (Finset.mem_erase.2 ⟨he, Finset.mem_univ _⟩)).1, fun e he => (hq e (Finset.mem_erase.2 ⟨he, Finset.mem_univ _⟩)).2⟩

/-- The place of the greatest score, and of the greatest of the rest. -/
def first (f : Fin 8 → EReal) : Fin 8 := (Classical.choose (exists_top f)).1
def second (f : Fin 8 → EReal) : Fin 8 := (Classical.choose (exists_top f)).2

theorem isTop (f : Fin 8 → EReal) : IsTop f (first f) (second f) := Classical.choose_spec (exists_top f)

/-! ## By maxima and minima over 128 lanes -/

theorem fold_max_eq {ι : Type} [DecidableEq ι] (s : Finset ι) (g : ι → EReal) (a : EReal) (hle : ∀ l ∈ s, g l ≤ a) (hex : ∃ l ∈ s, g l = a) :
    s.fold max ⊥ g = a :=
  le_antisymm ((Finset.fold_max_le a).2 ⟨bot_le, hle⟩)
    ((Finset.le_fold_max a).2 (Or.inr (hex.imp fun _ h => ⟨h.1, h.2.ge⟩)))

theorem fold_min_eq {ι : Type} [DecidableEq ι] (s : Finset ι) (g : ι → EReal) (a : EReal) (hle : ∀ l ∈ s, a ≤ g l) (hex : ∃ l ∈ s, g l = a) :
    s.fold min ⊤ g = a :=
  le_antisymm ((Finset.fold_min_le a).2 (Or.inr (hex.imp fun _ h => ⟨h.1, h.2.le⟩)))
    ((Finset.le_fold_min a).2 ⟨le_top, hle⟩)

/-- The eight scores in the first eight of 128 lanes, and nothing (the least value) in the others. -/
def lanes (f : Fin 8 → EReal) (l : Fin 128) : EReal := if h : l.val < 8 then f ⟨l.val, h⟩ else ⊥

/-- The lane of a place. -/
abbrev lane (e : Fin 8) : Fin 128 := e.castLE (by decide)

theorem lanes_lane (f : Fin 8 → EReal) (e : Fin 8) : lanes f (lane e) = f e := dif_pos e.isLt

/-- The lanes without the one of place `p`. -/
def others (f : Fin 8 → EReal) (p : Fin 8) (l : Fin 128) : EReal := if l = lane p then ⊥ else lanes f l

theorem lane_inj {e e' : Fin 8} (h : lane e = lane e') : e = e' := Fin.ext (congrArg (fun x : Fin 128 => x.val) h)

theorem others_lane (f : Fin 8 → EReal) {p e : Fin 8} (h : e ≠ p) : others f p (lane e) = f e :=
  (if_neg fun h' => h (lane_inj h')).trans (lanes_lane f e)

/-- A lane either holds a place's score or nothing. -/
theorem lanes_cases (f : Fin 8 → EReal) (l : Fin 128) : (∃ e, l = lane e) ∨ lanes f l = ⊥ := by
  by_cases h : l.val < 8
  · exact Or.inl ⟨⟨l.val, h⟩, rfl⟩
  · exact Or.inr (dif_neg h)

theorem others_cases (f : Fin 8 → EReal) (p : Fin 8) (l : Fin 128) : (∃ e, e ≠ p ∧ l = lane e) ∨ others f p l = ⊥ := by
  by_cases h : l = lane p
  · exact Or.inr (if_pos h)
  · rcases lanes_cases f l with ⟨e, rfl⟩ | h'
    · exact Or.inl ⟨e, fun h' => h (h' ▸ rfl), rfl⟩
    · exact Or.inr ((if_neg h).trans h')

section
variable {f : Fin 8 → EReal} {p q : Fin 8} (h : IsTop f p q) (hf : ∀ e, f e ≠ ⊥)
include h

theorem max_lanes : Finset.univ.fold max ⊥ (lanes f) = f p := by
  refine fold_max_eq _ _ _ (fun l _ => ?_) ⟨lane p, Finset.mem_univ _, lanes_lane f p⟩
  rcases lanes_cases f l with ⟨e, rfl⟩ | h'
  · rw [lanes_lane]; exact h.le e
  · rw [h']; exact bot_le

theorem max_others : Finset.univ.fold max ⊥ (others f p) = f q := by
  refine fold_max_eq _ _ _ (fun l _ => ?_) ⟨lane q, Finset.mem_univ _, others_lane f h.ne⟩
  rcases others_cases f p l with ⟨e, he, rfl⟩ | h'
  · rw [others_lane f he]; exact h.le' e he
  · rw [h']; exact bot_le

include hf

/-- The least lane of the greatest score, found as a minimum in which the other lanes count 128 or more. -/
theorem min_lanes (big : EReal) (hbig : ∀ e : Fin 8, ((e.val : ℝ) : EReal) ≤ big) :
    Finset.univ.fold min ⊤ (fun l : Fin 128 => if lanes f l = f p then ((l.val : ℝ) : EReal) else big) = ((p.val : ℝ) : EReal) := by
  refine fold_min_eq _ _ _ (fun l _ => ?_) ⟨lane p, Finset.mem_univ _, if_pos (lanes_lane f p)⟩
  by_cases hl : lanes f l = f p
  · rw [if_pos hl]
    rcases lanes_cases f l with ⟨e, rfl⟩ | h'
    · rw [lanes_lane] at hl
      exact EReal.coe_le_coe_iff.2 (Nat.cast_le.2 (h.least e hl))
    · exact absurd (hl.symm.trans h') (hf p)
  · rw [if_neg hl]; exact hbig p

theorem min_others (big : EReal) (hbig : ∀ e : Fin 8, ((e.val : ℝ) : EReal) ≤ big) :
    Finset.univ.fold min ⊤ (fun l : Fin 128 => if others f p l = f q then ((l.val : ℝ) : EReal) else big) = ((q.val : ℝ) : EReal) := by
  refine fold_min_eq _ _ _ (fun l _ => ?_) ⟨lane q, Finset.mem_univ _, if_pos (others_lane f h.ne)⟩
  by_cases hl : others f p l = f q
  · rw [if_pos hl]
    rcases others_cases f p l with ⟨e, he, rfl⟩ | h'
    · rw [others_lane f he] at hl
      exact EReal.coe_le_coe_iff.2 (Nat.cast_le.2 (h.least' e he hl))
    · exact absurd (hl.symm.trans h') (hf q)
  · rw [if_neg hl]; exact hbig q

end

/-! ## By a stable sort -/

/-- A stable sort of a list in order never asks whether an earlier element is before a later one. -/
theorem stableSort_of_pairwise {ι : Type} (R R' : ι → ι → Bool) (P : ι → ι → Prop) (h : ∀ a b, P a b → R b a = R' b a) (l : List ι)
    (hl : l.Pairwise P) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_stable {n : Nat} (R R' : Fin n → Fin n → Bool) (h : ∀ a b, a < b → R b a = R' b a) : sortedFrom R = sortedFrom R' := by
  have e : sortPositions n R = sortPositions n R' :=
    stableSort_of_pairwise R R' (· < ·) h _ (List.pairwise_lt_finRange n)
  funext k
  unfold sortedFrom
  rw [List.get_of_eq e]
  rfl

/-- The first two positions of the stable sort of eight scores, greater first. -/
theorem sorted_top {f : Fin 8 → EReal} {p q : Fin 8} (h : IsTop f p q) (i : Fin 2) :
    sortedFrom (fun k k' => decide (f k' < f k)) (i.castLE (by decide)) = ![p, q] i := by
  rw [sortedFrom_stable _ (fun k k' => decide (f k' < f k) || (decide (f k = f k') && decide (k < k'))) (fun a b hab => by
    simp [not_lt.2 hab.le])]
  have hB := StrictTotalBefore.of_key_then_position (fun a b : EReal => decide (b < a)) f (by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  have e₁ : ∀ e, (decide (f p < f e) || (decide (f e = f p) && decide (e < p))) = false := fun e => by
    simp only [Bool.or_eq_false_iff, Bool.and_eq_false_iff, decide_eq_false_iff_not, not_lt]
    refine ⟨h.le e, ?_⟩
    by_cases he : f e = f p
    · exact Or.inr (h.least e he)
    · exact Or.inl he
  have e₂ : ∀ e, e ≠ p → (decide (f q < f e) || (decide (f e = f q) && decide (e < q))) = false := fun e hp => by
    simp only [Bool.or_eq_false_iff, Bool.and_eq_false_iff, decide_eq_false_iff_not, not_lt]
    refine ⟨h.le' e hp, ?_⟩
    by_cases he : f e = f q
    · exact Or.inr (h.least' e hp he)
    · exact Or.inl he
  refine hB.sortedFrom_eq_of_prefix (k := 2) (by decide) ![p, q] ?_ ?_ ?_ i
  · intro i j hij
    fin_cases i <;> fin_cases j <;> first | rfl | exact absurd hij h.ne | exact absurd hij.symm h.ne
  · intro i j hij
    fin_cases i <;> fin_cases j <;> first | exact absurd hij (by decide) | exact e₁ q
  · intro i e he
    fin_cases i
    · exact e₁ e
    · exact e₂ e fun h' => he 0 h'.symm

end Cert.Route

end
-- ==== Proof.Route.Model.lean ====
/- What routing computes: each token's two places by its scores, how many earlier tokens go to each, and its two gates. -/
module

public import proofs.«01_k».proof.Proof.Route.Top
public import proofs.«01_k».proof.Proof.Gen.Kernel5Ideal.Value
public import Idealize.ShloMosaic.Lib.Pipeline.ValueKit

@[expose] public section

noncomputable section

namespace Cert.Route

open Idealize.ShloMosaic

/-- The four entries of a token's row: its places, and how many earlier tokens go to each. -/
def entry (p q a b l : ℕ) : ℕ := if l = 0 then p else if l = 1 then q else if l = 2 then a else if l = 3 then b else 0

/-- A token's gates: the softmax of its two greatest scores `u ≥ v`, relative to the greater. -/
def gate (u v : EReal) (l : ℕ) : EReal :=
  if l = 0 then Ideal.div 1 (1 + Ideal.exp (v - u)) else if l = 1 then Ideal.div (Ideal.exp (v - u)) (1 + Ideal.exp (v - u)) else 0

section
variable (X : FVec Ideal ⟨2, ![65536, 1024]⟩ .f32) (W : FVec Ideal ⟨2, ![1024, 8]⟩ .f32)

/-- The eight scores of token `t`. -/
def scores (t : Fin 65536) (e : Fin 8) : EReal := ∑ k : Fin 1024, X (ix2 t k) * W (ix2 k e)

/-- The places token `t` goes to. -/
def place₁ (t : Fin 65536) : Fin 8 := first (scores X W t)
def place₂ (t : Fin 65536) : Fin 8 := second (scores X W t)

/-- Whether token number `t` goes to place `l`, as a natural. -/
def goes (t l : ℕ) : ℕ :=
  if h : t < 65536 then if l = (place₁ X W ⟨t, h⟩).val ∨ l = (place₂ X W ⟨t, h⟩).val then 1 else 0 else 0

/-- How many of the first `t` tokens go to place `l`. -/
def before (t l : ℕ) : ℕ := ∑ i ∈ Finset.range t, goes X W i l

theorem goes_le (t l : ℕ) : goes X W t l ≤ 1 := by
  unfold goes
  split
  · split <;> omega
  · omega

theorem before_le (t l : ℕ) : before X W t l ≤ t :=
  (Finset.sum_le_sum fun i _ => goes_le X W i l).trans (by simp)

theorem before_add (t n l : ℕ) : before X W (t + n) l = before X W t l + ∑ i ∈ Finset.range n, goes X W (t + i) l :=
  Finset.sum_range_add _ _ _

/-- The words of token `t`. -/
def words (t : Fin 65536) (l : ℕ) : BitVec 32 :=
  BitVec.ofNat 32 (entry (place₁ X W t).val (place₂ X W t).val (before X W t.val (place₁ X W t).val) (before X W t.val (place₂ X W t).val) l)

/-- The gates of token `t`. -/
def gates (t : Fin 65536) (l : ℕ) : EReal := gate (scores X W t (place₁ X W t)) (scores X W t (place₂ X W t)) l

/-- The three results: the words, the gates, and how many tokens go to each place, in each of eight equal rows. -/
def outWords : IVec ⟨2, ![65536, 128]⟩ 32 := fun i => words X W (i 0) (i 1).val
def outGates : FVec Ideal ⟨2, ![65536, 128]⟩ .f32 := fun i => gates X W (i 0) (i 1).val
def outCounts : FVec Ideal ⟨2, ![8, 128]⟩ .f32 := fun i => (((before X W 65536 (i 1).val : ℕ) : ℝ) : EReal)

/-- No token goes to a place past the eighth. -/
theorem goes_past (t l : ℕ) (hl : 8 ≤ l) : goes X W t l = 0 := by
  unfold goes
  split
  · exact if_neg (by omega)
  · rfl

theorem before_past (t l : ℕ) (hl : 8 ≤ l) : before X W t l = 0 :=
  Finset.sum_eq_zero fun i _ => goes_past X W i l hl

/-- The scores of finite tokens and weights are finite. -/
theorem scores_finite (hX : ∀ i, ∃ a : ℝ, X i = (a : EReal)) (hW : ∀ i, ∃ a : ℝ, W i = (a : EReal)) (t : Fin 65536) (e : Fin 8) :
    ∃ a : ℝ, scores X W t e = (a : EReal) := by
  choose x hx using hX
  choose w hw using hW
  refine ⟨∑ k : Fin 1024, x (ix2 t k) * w (ix2 k e), ?_⟩
  unfold scores
  have : ∀ s : Finset (Fin 1024), ∑ k ∈ s, X (ix2 t k) * W (ix2 k e) = ((∑ k ∈ s, x (ix2 t k) * w (ix2 k e) : ℝ) : EReal) := fun s => by
    induction s using Finset.induction_on with
    | empty => simp
    | insert a s ha ih => rw [Finset.sum_insert ha, Finset.sum_insert ha, ih, hx, hw, ← EReal.coe_mul, ← EReal.coe_add]
  exact this _

end

end Cert.Route

end
-- ==== Proof.Route.Tile.lean ====
/- One grid point of the router: what the values it computes are, row by row of its 512 tokens, in terms of the two places
   of each token's scores. -/
module

public import proofs.«01_k».proof.Proof.Route.Model
public import proofs.«01_k».proof.Proof.Gen.Kernel5Ideal.Value
public import Idealize.ShloMosaic.Lib.Pipeline.ValueKit

@[expose] public section

set_option maxRecDepth 16384

noncomputable section

namespace Cert.Route

open Cert.Kernel5Ideal Cert.Kernel5Ideal.Gen
open Idealize.ShloMosaic Idealize.ShloMosaic.TcCoe Idealize.SL.Sem

/-! ## The constants -/

theorem f32_eight : Ideal.ofBits .f32 0x41000000#32 = ((8 : ℝ) : EReal) := by
  simp [Ideal.ofBits, Ideal.ieee]; rw [← EReal.coe_mul]; norm_num
theorem f32_two : Ideal.ofBits .f32 0x40000000#32 = ((2 : ℝ) : EReal) := by
  simp [Ideal.ofBits, Ideal.ieee]; rw [← EReal.coe_mul]; norm_num
theorem f32_three : Ideal.ofBits .f32 0x40400000#32 = ((3 : ℝ) : EReal) := by
  simp [Ideal.ofBits, Ideal.ieee]; rw [← EReal.coe_mul]; norm_num
theorem f32_lanes : Ideal.ofBits .f32 0x43000000#32 = ((128 : ℝ) : EReal) := by
  simp [Ideal.ofBits, Ideal.ieee]; rw [← EReal.coe_mul]; norm_num
theorem f32_bot : Ideal.ofBits .f32 0xFF800000#32 = ⊥ := by
  simp [Ideal.ofBits, Ideal.ieee]
theorem f32_top : Ideal.ofBits .f32 0x7F800000#32 = ⊤ := by
  simp [Ideal.ofBits, Ideal.ieee]

/-- Every place is below the number of lanes. -/
theorem place_le (e : Fin 8) : ((e.val : ℝ) : EReal) ≤ Ideal.ofBits .f32 0x43000000#32 := by
  rw [f32_lanes]
  exact EReal.coe_le_coe_iff.2 (by exact_mod_cast (by omega : e.val ≤ 128))

/-- The word of a natural holds it, when it is small. -/
theorem toInt_ofNat (n : ℕ) (h : n < 2 ^ 31) : (BitVec.ofNat 32 n).toInt = (n : ℤ) := by
  rw [BitVec.toInt_eq_toNat_cond, BitVec.toNat_ofNat]
  norm_num at h ⊢
  omega

theorem cast_inj {a b : ℕ} : (((a : ℝ) : EReal) = ((b : ℝ) : EReal)) ↔ a = b := by
  rw [EReal.coe_eq_coe_iff, Nat.cast_inj]

theorem lane_eq {l : Fin 128} {e : Fin 8} : (((l.val : ℝ) : EReal) = ((e.val : ℝ) : EReal)) ↔ l = lane e :=
  cast_inj.trans ⟨fun h => Fin.ext h, fun h => h ▸ rfl⟩

/-- A choice by the "or" of two truth values. -/
theorem select_or {α : Type} (a b : Prop) [Decidable a] [Decidable b] (u v : α) :
    Scalar.select (IntOp.ori (BitVec.ofBool (decide a)) (BitVec.ofBool (decide b))) u v = if a ∨ b then u else v := by
  by_cases ha : a <;> by_cases hb : b <;> simp [ha, hb, IntOp.ori, Scalar.select]

/-- A choice by the order of two small naturals' words. -/
theorem select_lt {α : Type} (a b : ℕ) (ha : a < 2 ^ 31) (hb : b < 2 ^ 31) (u v : α) :
    Scalar.select (IntOp.cmpi CmpIPredicate.slt (BitVec.ofNat 32 a) (BitVec.ofNat 32 b)) u v = if a < b then u else v := by
  have e : (BitVec.ofNat 32 a).slt (BitVec.ofNat 32 b) = decide (a < b) := by
    rw [BitVec.slt, toInt_ofNat a ha, toInt_ofNat b hb]; simp
  by_cases h : a < b <;> simp [IntOp.cmpi, Scalar.select, e, h]

/-- A sum of naturals in the extended reals. -/
theorem sum_cast {ι : Type} (s : Finset ι) (g : ι → ℕ) : ∑ i ∈ s, (((g i : ℕ) : ℝ) : EReal) = (((∑ i ∈ s, g i : ℕ) : ℝ) : EReal) := by
  classical
  induction s using Finset.induction_on with
  | empty => simp
  | insert a s ha ih => rw [Finset.sum_insert ha, Finset.sum_insert ha, ih, Nat.cast_add, EReal.coe_add]

/-! ## The scores and their places -/

/-- The lane numbers. -/
theorem pay4_eq (r : Fin 512) (l : Fin 128) : k0_pay4 (F := Ideal) (ix2 r l) = ((l.val : ℝ) : EReal) := by
  pointwise [k0_pay4]
  show (((BitVec.ofNat 32 l.val).toInt : ℝ) : EReal) = _
  rw [toInt_ofNat _ (by omega)]
  norm_cast

section
variable (x : FVec Ideal S512x1024 .f32) (w : FVec Ideal S1024x128 .f32)

/-- The eight scores of row `r`. -/
def score (r : Fin 512) (e : Fin 8) : EReal := ∑ k : Fin 1024, x (ix2 r k) * w (ix2 k (lane e))

/-- Its places. -/
abbrev fst (r : Fin 512) : Fin 8 := first (score x w r)
abbrev snd (r : Fin 512) : Fin 8 := second (score x w r)

theorem pay5_eq (r : Fin 512) (l : Fin 128) : k0_pay5 (F := Ideal) x w (ix2 r l) = lanes (score x w r) l := by
  pointwise [k0_pay5]
  rw [pay4_eq, f32_eight, f32_bot]
  unfold lanes
  by_cases h : l.val < 8
  · rw [dif_pos h]
    have h' : ((l.val : ℝ) : EReal) < ((8 : ℝ) : EReal) := EReal.coe_lt_coe_iff.2 (by exact_mod_cast h)
    simp only [h', if_true, decide_true]
    rfl
  · rw [dif_neg h]
    have h' : ¬ ((l.val : ℝ) : EReal) < ((8 : ℝ) : EReal) := fun h' => h (by exact_mod_cast EReal.coe_lt_coe_iff.1 h')
    simp only [h', if_false, decide_false]

theorem pay6_eq (r : Fin 512) : k0_pay6 (F := Ideal) x w (ix2 r 0) = score x w r (fst x w r) := by
  pointwise [k0_pay6]
  rw [f32_bot]
  simp only [pay5_eq]
  exact max_lanes (isTop _)

variable (hf : ∀ r e, score x w r e ≠ ⊥)
include hf

theorem pay7_eq (r : Fin 512) : k0_pay7 (F := Ideal) x w (ix2 r 0) = (((fst x w r).val : ℝ) : EReal) := by
  pointwise [k0_pay7]
  rw [f32_top]
  simp only [pay5_eq, pay6_eq, pay4_eq]
  exact min_lanes (isTop _) (hf r) _ place_le

theorem pay8_eq (r : Fin 512) (l : Fin 128) : k0_pay8 (F := Ideal) x w (ix2 r l) = others (score x w r) (fst x w r) l := by
  pointwise [k0_pay8]
  simp only [pay5_eq, pay7_eq x w hf, pay4_eq, f32_bot, lane_eq]
  rfl

theorem pay9_eq (r : Fin 512) : k0_pay9 (F := Ideal) x w (ix2 r 0) = score x w r (snd x w r) := by
  pointwise [k0_pay9]
  rw [f32_bot]
  simp only [pay8_eq x w hf]
  exact max_others (isTop _)

theorem pay10_eq (r : Fin 512) : k0_pay10 (F := Ideal) x w (ix2 r 0) = (((snd x w r).val : ℝ) : EReal) := by
  pointwise [k0_pay10]
  rw [f32_top]
  simp only [pay8_eq x w hf, pay9_eq x w hf, pay4_eq]
  exact min_others (isTop _) (hf r) _ place_le

/-! ## The gates -/

/-- The second score's weight against the first's. -/
def ratio (r : Fin 512) : EReal := Ideal.exp (score x w r (snd x w r) - score x w r (fst x w r))

theorem pay13_eq (r : Fin 512) : k0_pay13 (F := Ideal) x w (ix2 r 0) = Ideal.div 1 (1 + ratio x w r) := by
  pointwise [k0_pay13, k0_pay12, k0_pay11]
  rw [pay9_eq x w hf, pay6_eq]
  rfl

theorem pay14_eq (r : Fin 512) : k0_pay14 (F := Ideal) x w (ix2 r 0) = Ideal.div (ratio x w r) (1 + ratio x w r) := by
  pointwise [k0_pay14, k0_pay12, k0_pay11]
  rw [pay9_eq x w hf, pay6_eq]
  rfl

omit hf in
theorem pay2_eq (a b : FVec Ideal S512x1 .f32) (r : Fin 512) (l : Fin 128) :
    k0_pay2 (F := Ideal) k0_pay4 a b (ix2 r l) = if l.val = 0 then a (ix2 r 0) else if l.val = 1 then b (ix2 r 0) else 0 := by
  pointwise [k0_pay2]
  rw [pay4_eq]
  have h0 : (((l.val : ℝ) : EReal) = 0) ↔ l.val = 0 := by simpa using cast_inj (a := l.val) (b := 0)
  have h1 : (((l.val : ℝ) : EReal) = 1) ↔ l.val = 1 := by simpa using cast_inj (a := l.val) (b := 1)
  simp only [h0, h1]

/-! ## Counting -/

/-- Whether row `r` goes to place `l`, as a natural. -/
def hit (r : Fin 512) (l : Fin 128) : ℕ := if l = lane (fst x w r) ∨ l = lane (snd x w r) then 1 else 0

theorem pay17_eq (r : Fin 512) (l : Fin 128) :
    k0_pay17 (F := Ideal) k0_pay4 (k0_pay7 x w) (k0_pay10 x w) (ix2 r l) = (((hit x w r l : ℕ) : ℝ) : EReal) := by
  pointwise [k0_pay17, k0_pay15, k0_pay16]
  simp only [pay4_eq, pay7_eq x w hf, pay10_eq x w hf, lane_eq]
  rw [select_or]
  unfold hit
  split <;> simp

-- `n l`: how many of the tokens before the point's go to place `l`; `v` holds these counts.
variable (v : FVec Ideal S1x128 .f32) (n : Fin 128 → ℕ) (hv : ∀ l, v (ix2 0 l) = (((n l : ℕ) : ℝ) : EReal))
include hv

/-- How many earlier tokens go to place `l`: those before the point, and those in its earlier rows. -/
def earlier (r : Fin 512) (l : Fin 128) : ℕ := (∑ i : Fin 512, if i.val < r.val then hit x w i l else 0) + n l

theorem pay18_eq (r : Fin 512) (l : Fin 128) :
    k0_pay18 (F := Ideal) k0_pay4 (k0_pay7 x w) (k0_pay10 x w) v (ix2 r l) = (((earlier x w n r l : ℕ) : ℝ) : EReal) := by
  pointwise [k0_pay18]
  unfold earlier
  rw [hv, Nat.cast_add, EReal.coe_add, ← sum_cast]
  refine congrArg (· + _) (Finset.sum_congr rfl fun i _ => ?_)
  rw [select_lt _ _ (by omega) (by omega), pay17_eq x w hf]
  split <;> simp

theorem pay19_eq (r : Fin 512) :
    k0_pay19 (F := Ideal) k0_pay4 (k0_pay7 x w) (k0_pay10 x w) v (ix2 r 0) = (((earlier x w n r (lane (fst x w r)) : ℕ) : ℝ) : EReal) := by
  pointwise [k0_pay19, k0_pay15]
  simp only [pay4_eq, pay7_eq x w hf, lane_eq, pay18_eq x w hf v n hv]
  simp [Scalar.select]

theorem pay20_eq (r : Fin 512) :
    k0_pay20 (F := Ideal) k0_pay4 (k0_pay7 x w) (k0_pay10 x w) v (ix2 r 0) = (((earlier x w n r (lane (snd x w r)) : ℕ) : ℝ) : EReal) := by
  pointwise [k0_pay20, k0_pay16]
  simp only [pay4_eq, pay10_eq x w hf, lane_eq, pay18_eq x w hf v n hv]
  simp [Scalar.select]

/-- What the point leaves in every row of the carried counts. -/
theorem pay21_eq (r : Fin 8) (l : Fin 128) :
    k0_pay21 (F := Ideal) k0_pay4 (k0_pay7 x w) (k0_pay10 x w) v (ix2 r l) = (((n l + ∑ i : Fin 512, hit x w i l : ℕ) : ℝ) : EReal) := by
  pointwise [k0_pay21]
  rw [hv, Nat.cast_add, EReal.coe_add, ← sum_cast]
  refine congrArg (_ + ·) (Finset.sum_congr rfl fun i _ => ?_)
  rw [pay17_eq x w hf]

/-! ## The words written -/

omit hf hv in
/-- A small natural's word. -/
theorem fptosi_nat (k : ℕ) (h : k < 2 ^ 31) : Ideal.fptosi 32 (((k : ℕ) : ℝ) : EReal) = BitVec.ofNat 32 k := by
  have h0 : (0 : ℝ) ≤ (k : ℝ) := Nat.cast_nonneg k
  rw [Ideal.fptosi, Ideal.toIntClamped_coe, if_pos h0, Int.floor_natCast]
  have : max (-(2 ^ (32 - 1) : ℕ) : ℤ) (min ((2 ^ (32 - 1) : ℕ) - 1 : ℤ) (k : ℤ)) = (k : ℤ) := by norm_num at h ⊢; omega
  rw [this]
  exact BitVec.ofInt_natCast 32 k

theorem pay1_eq (hn : ∀ l, n l < 2 ^ 30) (r : Fin 512) (l : Fin 128) :
    k0_pay1 (F := Ideal) k0_pay4 (k0_pay7 x w) (k0_pay10 x w) (k0_pay19 k0_pay4 (k0_pay7 x w) (k0_pay10 x w) v)
        (k0_pay20 k0_pay4 (k0_pay7 x w) (k0_pay10 x w) v) k0_pay22 (ix2 r l)
      = BitVec.ofNat 32 (entry (fst x w r).val (snd x w r).val (earlier x w n r (lane (fst x w r)))
          (earlier x w n r (lane (snd x w r))) l.val) := by
  have small : ∀ l, earlier x w n r l < 2 ^ 31 := fun l => by
    have h1 : (∑ i : Fin 512, if i.val < r.val then hit x w i l else 0) ≤ ∑ _i : Fin 512, 1 :=
      Finset.sum_le_sum fun i _ => by unfold hit; split <;> [split; skip] <;> omega
    have h2 := hn l
    simp only [Finset.sum_const, Finset.card_univ, Fintype.card_fin, smul_eq_mul] at h1
    unfold earlier
    omega
  pointwise [k0_pay1, k0_pay22]
  rw [pay7_eq x w hf, pay10_eq x w hf, pay19_eq x w hf v n hv, pay20_eq x w hf v n hv, pay4_eq, f32_two, f32_three]
  have h0 : (((l.val : ℝ) : EReal) = 0) ↔ l.val = 0 := by simpa using cast_inj (a := l.val) (b := 0)
  have h1 : (((l.val : ℝ) : EReal) = 1) ↔ l.val = 1 := by simpa using cast_inj (a := l.val) (b := 1)
  have h2 : (((l.val : ℝ) : EReal) = ((2 : ℝ) : EReal)) ↔ l.val = 2 := by simpa using cast_inj (a := l.val) (b := 2)
  have h3 : (((l.val : ℝ) : EReal) = ((3 : ℝ) : EReal)) ↔ l.val = 3 := by simpa using cast_inj (a := l.val) (b := 3)
  simp only [h0, h1, h2, h3]
  have key : ∀ k : ℕ, k < 2 ^ 31 → FloatOps.fptosi (F := Ideal) (φ := .f32) 32 (((k : ℕ) : ℝ) : EReal) = BitVec.ofNat 32 k := fptosi_nat
  have key0 : FloatOps.fptosi (F := Ideal) (φ := .f32) 32 (0 : EReal) = BitVec.ofNat 32 0 := by simpa using key 0 (by norm_num)
  unfold entry
  split
  · exact key _ (by omega)
  · split
    · exact key _ (by omega)
    · split
      · exact key _ (small _)
      · split
        · exact key _ (small _)
        · exact key0

end

end Cert.Route

end
-- ==== Proof.Route.Weights.lean ====
/- The router's weights as the kernel's host code lays them out: the eight columns in the first eight of 128. -/
module

public import proofs.«01_k».proof.Proof.Route.Top
public import proofs.«01_k».proof.Proof.Gen.Kernel5Ideal.Value
public import Idealize.ShloMosaic.Lib.Pipeline.ValueKit
public import Idealize.ShloMosaic.Lib.Routing.OpsSet
public import Idealize.ShloMosaic.Lib.Routing.OpsOne

@[expose] public section

set_option maxRecDepth 16384

noncomputable section

namespace Cert.Route

open Cert.Kernel5Ideal Cert.Kernel5Ideal.Gen
open Idealize.ShloMosaic Idealize.ShloMosaic.TcCoe Idealize.SL.Sem

/-- Where an entry of the update lands: at its own row and column, the start being zero. -/
theorem lands (idx : IVec S1 32) (h : ∀ i, idx i = 0#32) (k : Fin 1024) (e : Fin 8) (k' : Fin 1024) (l : Fin 128) :
    scatter_S1024x128_S1_S1024x8_01_n_1_0.resultIdx? (ix2 k e) idx = some (ix2 k' l) ↔ k = k' ∧ lane e = l := by
  have hs : ∀ a, scatter_S1024x128_S1_S1024x8_01_n_1_0.start (ix2 k e) idx a = 0 := fun a => by
    unfold ScatterDims.start
    split
    · rw [h]; rfl
    · rfl
  have hw0 : scatter_S1024x128_S1_S1024x8_01_n_1_0.window (ix2 k e) 0 = k.val := rfl
  have hw1 : scatter_S1024x128_S1_S1024x8_01_n_1_0.window (ix2 k e) 1 = e.val := rfl
  have hi : (ix2 k' l : S1024x128.Idx) = ValueIdx.ix2 k' l := by funext z; match z with | ⟨0, _⟩ => rfl | ⟨1, _⟩ => rfl
  rw [hi]
  refine (Routing.resultIdx?_ix2 scatter_S1024x128_S1_S1024x8_01_n_1_0 (ix2 k e) idx k' l).trans ?_
  rw [hs, hs, hw0, hw1, Fin.ext_iff, Fin.ext_iff, zero_add, zero_add, Nat.cast_inj, Nat.cast_inj]
  rfl

theorem padded (x : FVec Ideal S1024x128 .f32) (idx : IVec S1 32) (h : ∀ i, idx i = 0#32) (u : FVec Ideal S1024x8 .f32) (k : Fin 1024) (e : Fin 8) :
    Host.scatter scatter_S1024x128_S1_S1024x8_01_n_1_0 (fun _ b => b) x idx u (ix2 k (lane e)) = u (ix2 k e) := by
  refine Routing.scatter_set_hit _ x idx u _ _ (fun i hi => ?_) (ix2 k e) ((lands idx h k e k (lane e)).2 ⟨rfl, rfl⟩)
  obtain ⟨a, b, rfl⟩ : ∃ a b, i = ix2 a b := ⟨i 0, i 1, by funext z; match z with | ⟨0, _⟩ => rfl | ⟨1, _⟩ => rfl⟩
  obtain ⟨rfl, hb⟩ := (lands idx h a b k (lane e)).1 hi
  rw [lane_inj hb]

variable (m : (ℓ : Loc nD τ sig) → Buf (Elt Ideal) ℓ)

theorem weights (c : Dev nD) (k : Fin 1024) (e : Fin 8) : V m c main_v2 (ix2 k (lane e)) = m ((c : Thread nD τ).loc main_arg1) (ix2 k e) := by
  have : V m c main_v2 = Host.scatter scatter_S1024x128_S1_S1024x8_01_n_1_0 (fun _ b => b)
      (broadcastInDim S1024x128 ![] bcast_S_S1024x128 (constant S_ .f32 0x00000000#32 : FVec Ideal S_ .f32)) (broadcastInDim S1 ![] bcast_S_S1 (constantI S_ 32 0#32))
      (m ((c : Thread nD τ).loc main_arg1)) := by
    unfold V hostOps0
    after_results_simp <;> rfl
  rw [this]
  exact padded _ _ (fun _ => rfl) _ k e

end Cert.Route

end
-- ==== Proof.Route.Carry.lean ====
/- The router's grid points in order: the counts carried from one to the next, and the blocks each writes. -/
module

public import proofs.«01_k».proof.Proof.Route.Tile
public import proofs.«01_k».proof.Proof.Route.Weights
public import Idealize.ShloMosaic.Lib.Pipeline.ReadBack

@[expose] public section

set_option maxRecDepth 16384

noncomputable section

namespace Cert.Route

open Cert.Kernel5Ideal Cert.Kernel5Ideal.Gen
open Idealize.ShloMosaic Idealize.ShloMosaic.TcCoe Idealize.SL.Sem

/-- Which blocks a grid point reads and writes: the tokens of its number, and the weights whole. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

abbrev X : FVec Ideal S65536x1024 .f32 := m ((c : Thread nD τ).loc main_arg0)
abbrev W : FVec Ideal S1024x8 .f32 := m ((c : Thread nD τ).loc main_arg1)

/-- Token `r` of grid point `t`. -/
abbrev token (t : Fin cfg0.N) (r : Fin 512) : Fin 65536 := ⟨512 * t.val + r.val, by have := t.isLt; have := (show cfg0.N = 128 from N_0); omega⟩

theorem score_eq (t : Fin cfg0.N) (r : Fin 512) : score (iblk m c 0 t) (iblk m c 1 t) r = scores (X m c) (W m c) (token t r) := by
  funext e
  unfold score scores
  refine Finset.sum_congr rfl fun k _ => ?_
  refine congrArg₂ (· * ·) ?_ ?_
  · refine Eq.trans ?_ (congrFun (V_main_arg0 m c) (ix2 (token t r) k))
    blk_point [iblk, idx t]
  · refine Eq.trans ?_ (weights m c k e)
    blk_point [iblk, idx t]

/-- The first row of the carried counts, read as a row. -/
theorem row (S : FVec Ideal S8x128 .f32) (l : Fin 128) :
    (fun x : S1x128.Idx => S ((Rect.unit (s := S8x128) ![0, 0] ![1, 128] inb_S8x128_S1x128_0_0).idx x)) (ix2 0 l) = S (ix2 0 l) :=
  congrArg S (funext fun a => Fin.ext (by
    match a with
    | ⟨0, _⟩ => rfl
    | ⟨1, _⟩ => exact (Nat.zero_add _).trans (Nat.one_mul _)))

/-- What a point writes over the counts `v` before it: the words, the gates, and the counts after it, twice. -/
def stepOf (t : Fin cfg0.N) (v : FVec Ideal S1x128 .f32) :
    Vec Ideal S512x128 .i32 × Vec Ideal S512x128 .f32 × Vec Ideal S8x128 .f32 × Vec Ideal S8x128 .f32 :=
  let x := iblk m c 0 t
  let w := iblk m c 1 t
  (k0_pay1 k0_pay4 (k0_pay7 x w) (k0_pay10 x w) (k0_pay19 k0_pay4 (k0_pay7 x w) (k0_pay10 x w) v)
      (k0_pay20 k0_pay4 (k0_pay7 x w) (k0_pay10 x w) v) k0_pay22,
    k0_pay2 k0_pay4 (k0_pay13 x w) (k0_pay14 x w),
    k0_pay21 k0_pay4 (k0_pay7 x w) (k0_pay10 x w) v,
    k0_pay21 k0_pay4 (k0_pay7 x w) (k0_pay10 x w) v)

theorem pointA (t : Fin cfg0.N) (h : t.val % 128 = 0) :
    ∃ v : FVec Ideal S1x128 .f32, (∀ l, v (ix2 0 l) = 0) ∧ outsAt0 m c t.val t.isLt = stepOf m c t v := by
  rw [outsAt0_A m c t h]
  frame_out
  refine ⟨_, fun l => ?_, rfl⟩
  refine (congrFun (View.readCov_fill _ _ _ _ _ (by decide)) _).trans ?_
  refine (row _ l).trans ?_
  pointwise [k0_pay3]

theorem pointB (t : Fin cfg0.N) (h : ¬ t.val % 128 = 0) :
    ∃ v : FVec Ideal S1x128 .f32, (∀ l, v (ix2 0 l) = (outsAt0 m c (t.val - 1) (Nat.lt_of_le_of_lt (Nat.sub_le _ _) t.isLt)).2.2.2 (ix2 0 l))
      ∧ outsAt0 m c t.val t.isLt = stepOf m c t v := by
  rw [outsAt0_B m c t h]
  frame_out
  refine ⟨_, fun l => ?_, rfl⟩
  rw [read_unread_whole]
  exact row _ l

section
variable (hf : ∀ t e, scores (X m c) (W m c) t e ≠ ⊥)

theorem hit_eq (t : Fin cfg0.N) (r : Fin 512) (l : Fin 128) :
    hit (iblk m c 0 t) (iblk m c 1 t) r l = goes (X m c) (W m c) (512 * t.val + r.val) l.val := by
  have ht := t.isLt
  have hN := (show cfg0.N = 128 from N_0)
  unfold hit goes fst snd
  rw [dif_pos (by omega), score_eq]
  simp only [Fin.ext_iff]
  rfl

/-- A point's counts of earlier tokens are the counts over all tokens before. -/
theorem earlier_eq (t : Fin cfg0.N) (r : Fin 512) (l : Fin 128) :
    earlier (iblk m c 0 t) (iblk m c 1 t) (fun l => before (X m c) (W m c) (512 * t.val) l.val) r l
      = before (X m c) (W m c) (512 * t.val + r.val) l.val := by
  have key : (∑ i : Fin 512, if i.val < r.val then hit (iblk m c 0 t) (iblk m c 1 t) i l else 0)
      = ∑ i ∈ Finset.range r.val, goes (X m c) (W m c) (512 * t.val + i) l.val := by
    simp only [hit_eq]
    rw [Fin.sum_univ_eq_sum_range (fun i => if i < r.val then goes (X m c) (W m c) (512 * t.val + i) l.val else 0) 512, ← Finset.sum_filter]
    refine Finset.sum_congr (Finset.ext fun i => ?_) fun _ _ => rfl
    simp only [Finset.mem_filter, Finset.mem_range]
    omega
  unfold earlier
  rw [key, before_add]
  exact Nat.add_comm _ _

include hf

theorem step_counts (t : Fin cfg0.N) (v : FVec Ideal S1x128 .f32)
    (hv : ∀ l : Fin 128, v (ix2 0 l) = (((before (X m c) (W m c) (512 * t.val) l.val : ℕ) : ℝ) : EReal)) (r : Fin 8) (l : Fin 128) :
    (stepOf m c t v).2.2.2 (ix2 r l) = (((before (X m c) (W m c) (512 * (t.val + 1)) l.val : ℕ) : ℝ) : EReal) := by
  refine (pay21_eq _ _ (fun r e => by rw [score_eq]; exact hf _ _) v _ hv r l).trans ?_
  rw [Nat.mul_succ, before_add]
  simp only [hit_eq]
  rw [Fin.sum_univ_eq_sum_range (fun i => goes (X m c) (W m c) (512 * t.val + i) l.val) 512]

/-- What each point leaves: its step, over the counts of the tokens before its own. -/
theorem point (n : ℕ) (hn : n < cfg0.N) : ∃ v : FVec Ideal S1x128 .f32,
    (∀ l : Fin 128, v (ix2 0 l) = (((before (X m c) (W m c) (512 * n) l.val : ℕ) : ℝ) : EReal)) ∧ outsAt0 m c n hn = stepOf m c ⟨n, hn⟩ v := by
  induction n with
  | zero =>
    obtain ⟨v, hv, e⟩ := pointA m c ⟨0, hn⟩ rfl
    exact ⟨v, fun l => by rw [hv]; simp [before], e⟩
  | succ n ih =>
    obtain ⟨u, hu, e'⟩ := ih (Nat.lt_of_succ_lt hn)
    obtain ⟨v, hv, e⟩ := pointB m c ⟨n + 1, hn⟩ (by have := (show cfg0.N = 128 from N_0); show ¬ (n + 1) % 128 = 0; omega)
    refine ⟨v, fun l => ?_, e⟩
    refine (hv l).trans ?_
    show (outsAt0 m c n _).2.2.2 (ix2 0 l) = _
    rw [e']
    exact step_counts m c hf ⟨n, _⟩ u hu 0 l

/-- The words and the gates a point writes, row by row. -/
theorem point_words (t : Fin cfg0.N) (r : Fin 512) (l : Fin 128) :
    (outsAt0 m c t.val t.isLt).1 (ix2 r l) = words (X m c) (W m c) (token t r) l.val := by
  obtain ⟨v, hv, e⟩ := point m c hf t.val t.isLt
  rw [e]
  refine (pay1_eq _ _ (fun r e => by rw [score_eq]; exact hf _ _) v _ hv (fun l => ?_) r l).trans ?_
  · have := before_le (X m c) (W m c) (512 * t.val) l.val
    have ht := t.isLt
    have hN := (show cfg0.N = 128 from N_0)
    omega
  · show BitVec.ofNat 32 (entry _ _ (earlier (iblk m c 0 t) (iblk m c 1 t) _ r _) (earlier (iblk m c 0 t) (iblk m c 1 t) _ r _) _) = _
    rw [earlier_eq, earlier_eq]
    unfold fst snd
    rw [score_eq]
    rfl

theorem point_gates (t : Fin cfg0.N) (r : Fin 512) (l : Fin 128) :
    (outsAt0 m c t.val t.isLt).2.1 (ix2 r l) = gates (X m c) (W m c) (token t r) l.val := by
  obtain ⟨v, hv, e⟩ := point m c hf t.val t.isLt
  rw [e]
  have hb : ∀ r e, score (iblk m c 0 t) (iblk m c 1 t) r e ≠ ⊥ := fun r e => by rw [score_eq]; exact hf _ _
  refine (pay2_eq _ _ r l).trans ?_
  rw [pay13_eq _ _ hb, pay14_eq _ _ hb]
  unfold ratio fst snd gates gate
  rw [score_eq]
  rfl

end

end Cert.Route

end
-- ==== Proof.Route.Value.lean ====
/- The router's three result arrays: the words and the gates of every token, and the counts. -/
module

public import proofs.«01_k».proof.Proof.Route.Carry

@[expose] public section

set_option maxRecDepth 16384

noncomputable section

namespace Cert.Route

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

theorem final_words (c : Dev nD) (hf : ∀ t e, scores (X m c) (W m c) t e ≠ ⊥) :
    (dats m 0 c).arrAt 2 cfg0.N = outWords (X m c) (W m c) := by
  refine (dats m 0 c).arrAt_eq_of_covers 2 _ (by decide +kernel) fun t _ y => ?_
  blk_simp
  rw [after0_2]
  obtain ⟨r, l, rfl⟩ : ∃ (r : Fin 512) (l : Fin 128), y = ix2 r l := ⟨y 0, y 1, by funext z; match z with | ⟨0, _⟩ => rfl | ⟨1, _⟩ => rfl⟩
  refine (point_words m c hf t r l).trans ?_
  refine congrArg₂ (words (X m c) (W m c)) (Fin.ext ?_) ?_
  · show 512 * t.val + r.val = win0_2.index t 0 * 512 + 1 * r.val
    rw [(idx t).2.2.1]
    show 512 * t.val + r.val = t.val * 512 + 1 * r.val
    omega
  · blk_point [idx t]

theorem final_gates (c : Dev nD) (hf : ∀ t e, scores (X m c) (W m c) t e ≠ ⊥) :
    (dats m 0 c).arrAt 3 cfg0.N = outGates (X m c) (W m c) := by
  refine (dats m 0 c).arrAt_eq_of_covers 3 _ (by decide +kernel) fun t _ y => ?_
  blk_simp
  rw [after0_3]
  obtain ⟨r, l, rfl⟩ : ∃ (r : Fin 512) (l : Fin 128), y = ix2 r l := ⟨y 0, y 1, by funext z; match z with | ⟨0, _⟩ => rfl | ⟨1, _⟩ => rfl⟩
  refine (point_gates m c hf t r l).trans ?_
  refine congrArg₂ (gates (X m c) (W m c)) (Fin.ext ?_) ?_
  · show 512 * t.val + r.val = win0_3.index t 0 * 512 + 1 * r.val
    rw [(idx t).2.2.2]
    show 512 * t.val + r.val = t.val * 512 + 1 * r.val
    omega
  · blk_point [idx t]

/-- The counts are written once, at the last point. -/
theorem final_counts (c : Dev nD) (hf : ∀ t e, scores (X m c) (W m c) t e ≠ ⊥) :
    (dats m 0 c).arrAt 4 cfg0.N = outCounts (X m c) (W m c) := by
  refine (dats m 0 c).arrAt_eq_of_covers 4 _ (by decide +kernel) fun t ht y => ?_
  blk_simp
  rw [after0_4]
  obtain ⟨r, l, rfl⟩ : ∃ (r : Fin 8) (l : Fin 128), y = ix2 r l := ⟨y 0, y 1, by funext z; match z with | ⟨0, _⟩ => rfl | ⟨1, _⟩ => rfl⟩
  have hN := (show cfg0.N = 128 from N_0)
  have hlast : t.val = 127 := by
    have := (flush0_4 t).mp ht
    have := t.isLt
    omega
  obtain ⟨v, hv, h⟩ := point m c hf t.val t.isLt
  rw [h]
  refine (step_counts m c hf t v hv r l).trans ?_
  rw [hlast]
  refine congrArg (fun k : ℕ => (((before (X m c) (W m c) 65536 k : ℕ) : ℝ) : EReal)) ?_
  show l.val = win0_4.index t 1 * 128 + 1 * l.val
  have : win0_4.index t 1 = 0 := rfl
  rw [this]
  omega

end Cert.Route

end
-- ==== Proof.Route.Ref.lean ====
/- The reference's terms, read at an entry: the words and the gates of every token, and the counts. -/
module

public import proofs.«01_k».proof.Proof.Route.Tile
public import proofs.«01_k».proof.Proof.Gen.Reference5Ideal
public import Idealize.ShloMosaic.Lib.Pointwise
public import Idealize.ShloMosaic.Lib.Routing.OpsOne

@[expose] public section

set_option maxRecDepth 16384

noncomputable section

namespace Cert.Route

open Cert.Reference5Ideal Cert.Reference5Ideal.Gen
open Idealize.ShloMosaic

section
variable (X : FVec Ideal S65536x1024 .f32) (W : FVec Ideal S1024x8 .f32)

/-- The scores, each token's two greatest, and their places. -/
def logits : FVec Ideal S65536x8 .f32 := Host.dotGeneral dot_S65536x1024_S1024x8_S65536x8_1_0_0_1_n_n none X W
def top : FVec Ideal S65536x2 .f32 × IVec S65536x2 32 := Host.topK S65536x2 1 (FloatOps.cmpfTotal .gt) (logits X W) sliceFits_S65536x8_S65536x2

theorem logits_eq (t : Fin 65536) (e : Fin 8) : logits X W (ix2 t e) = scores X W t e := by
  pointwise [logits]
  rfl

/-- The sort of a token's scores starts with its two places. -/
theorem sorted (t : Fin 65536) (i : Fin 2) :
    sortedFrom (fun k k' : Fin 8 => (FloatOps.cmpfTotal (F := Ideal) (φ := .f32) .gt (logits X W (ix2 t k)) (logits X W (ix2 t k')) == 1#1)) (i.castLE (by decide))
      = ![place₁ X W t, place₂ X W t] i := by
  refine Eq.trans (congrFun (congrArg sortedFrom (funext fun k => funext fun k' => ?_)) _) (sorted_top (isTop (scores X W t)) i)
  rw [logits_eq, logits_eq]
  show (Ideal.cmpTotal .gt _ _ == 1#1) = _
  by_cases h : scores X W t k' < scores X W t k <;> simp [Ideal.cmpTotal, Ideal.cmp, CmpDirection.ordered, h]

/-- An index with its second coordinate replaced. -/
theorem along_eq (t : Fin 65536) (a k : Fin 8) : (ix2 t a : S65536x8.Idx).along 1 k = ix2 t k := by
  funext z
  match z with
  | ⟨0, _⟩ => rfl
  | ⟨1, _⟩ => rfl

theorem top_value (t : Fin 65536) (i : Fin 2) : (top X W).1 (ix2 t i) = scores X W t (![place₁ X W t, place₂ X W t] i) := by
  rw [← sorted X W t i, ← logits_eq]
  pointwise [top, Host.topK, Host.sort2]
  simp only [along_eq]
  rfl

theorem top_place (t : Fin 65536) (i : Fin 2) : (top X W).2 (ix2 t i) = BitVec.ofNat 32 (![place₁ X W t, place₂ X W t] i).val := by
  rw [← sorted X W t i]
  pointwise [top, Host.topK, Host.sort2]
  simp only [along_eq]
  rfl

end

/-- Which place each of a token's choices is, as words; how many choices of a token a place has; and how many earlier tokens' choices the place of each choice has. -/
def chosen (T : IVec S65536x2 32) : IVec S65536x2x8 32 :=
  extui 32 (cmpi .eq (broadcastInDim S65536x2x8 ![0, 1, 2] bcast_S65536x2x1_S65536x2x8_0_1_2 (broadcastInDim S65536x2x1 ![0, 1] bcast_S65536x2_S65536x2x1_0_1 T))
    (broadcastInDim S65536x2x8 ![0, 1, 2] bcast_S1x1x8_S65536x2x8_0_1_2 (iotaInDim S1x1x8 32 2))) natLt_1_32
def count (T : IVec S65536x2 32) : IVec S65536x8 32 :=
  Host.reduce IntOp.addi (chosen T) (constantI S_ 32 0#32) reducesTo_S65536x2x8_S65536x8_d1 h_S_
def prefixes (T : IVec S65536x2 32) : IVec S65536x8 32 :=
  Host.reduceWindow IntOp.addi ![65536, 1] ![1, 1] ![65535, 0] ![0, 0] (count T) (broadcastInDim S_ ![] bcast_S_S_ (constantI S_ 32 0#32))
    reduceWindows_S65536x8_S65536x8_w65536s1p65535_0_w1s1p0_0 h_S_
def rank (T : IVec S65536x2 32) : IVec S65536x2 32 :=
  Host.reduce IntOp.addi (muli (chosen T) (broadcastInDim S65536x2x8 ![0, 1, 2] bcast_S65536x1x8_S65536x2x8_0_1_2
    (broadcastInDim S65536x1x8 ![0, 2] bcast_S65536x8_S65536x1x8_0_2 (subi (prefixes T) (count T))))) (constantI S_ 32 0#32) reducesTo_S65536x2x8_S65536x2_d2 h_S_
def wideWords (T : IVec S65536x2 32) : IVec S65536x128 32 :=
  pad S65536x128 ![0, 0] ![0, 124] ![0, 0] (concatenate S65536x4 1 [⟨S65536x2, T⟩, ⟨S65536x2, rank T⟩] concatenates_S65536x2_S65536x2_S65536x4_d1)
    (constantI S_ 32 0#32) pads_S65536x4_S65536x128_000_01240 h_S_

/-- The softmax of a token's two scores, in the first two of 128 lanes. -/
def shifted (T : FVec Ideal S65536x2 .f32) : FVec Ideal S65536x2 .f32 :=
  Host.exp (subf T (broadcastInDim S65536x2 ![0, 1] bcast_S65536x1_S65536x2_0_1 (broadcastInDim S65536x1 ![0] bcast_S65536_S65536x1_0
    (maximumf (broadcastInDim S65536 ![] bcast_S_S65536 (constant S_ .f32 0xFF800000#32))
      (Host.reduce FloatOps.maximumf T (constant S_ .f32 0xFF800000#32) reducesTo_S65536x2_S65536_d1 h_S_)))))
def wideGates (T : FVec Ideal S65536x2 .f32) : FVec Ideal S65536x128 .f32 :=
  pad S65536x128 ![0, 0] ![0, 126] ![0, 0] (Host.divf (shifted T) (broadcastInDim S65536x2 ![0, 1] bcast_S65536x1_S65536x2_0_1
    (broadcastInDim S65536x1 ![0] bcast_S65536_S65536x1_0 (Host.reduceAdd (shifted T) (constant S_ .f32 0x00000000#32) reducesTo_S65536x2_S65536_d1 h_S_))))
    (sitofp .f32 (constantI S_ 32 0#32)) pads_S65536x2_S65536x128_000_01260 h_S_

/-- How many tokens each place has, in the first eight of 128 lanes of eight equal rows. -/
def totals (T : IVec S65536x2 32) : IVec S8 32 := Host.reduce IntOp.addi (count T) (constantI S_ 32 0#32) reducesTo_S65536x8_S8_d0 h_S_
def wideCounts (T : IVec S65536x2 32) : FVec Ideal S8x128 .f32 :=
  broadcastInDim S8x128 ![0, 1] bcast_S1x128_S8x128_0_1 (pad S1x128 ![0, 0] ![0, 120] ![0, 0]
    (sitofp .f32 (broadcastInDim S1x8 ![1] bcast_S8_S1x8_1 (totals T))) (sitofp .f32 (constantI S_ 32 0#32)) pads_S1x8_S1x128_000_01200 h_S_)

theorem chosen_eq (T : IVec S65536x2 32) (t : Fin 65536) (i : Fin 2) (e : Fin 8) :
    chosen T (ix3 t i e) = if T (ix2 t i) = BitVec.ofNat 32 e.val then 1#32 else 0#32 := by
  pointwise [chosen]
  by_cases h : T (ix2 t i) = BitVec.ofNat 32 e.val
  · simp [IntOp.cmpi, h]
  · rw [if_neg h]
    show BitVec.setWidth 32 (BitVec.ofBool (T (ix2 t i) == BitVec.ofNat 32 e.val)) = _
    rw [beq_eq_false_iff_ne.2 h]
    rfl

/-- A fold of additions of words is their sum. -/
theorem fold_add {n : ℕ} (f : Fin n → BitVec 32) : Finset.fold IntOp.addi (0#32) f Finset.univ = ∑ e, f e := rfl

theorem count_eq (T : IVec S65536x2 32) (t : Fin 65536) (e : Fin 8) :
    count T (ix2 t e) = chosen T (ix3 t 0 e) + chosen T (ix3 t 1 e) := by
  pointwise [count]
  rw [fold_add, Fin.sum_univ_two]

theorem rank_eq (T : IVec S65536x2 32) (t : Fin 65536) (i : Fin 2) :
    rank T (ix2 t i) = ∑ e : Fin 8, chosen T (ix3 t i e) * (prefixes T (ix2 t e) - count T (ix2 t e)) := by
  pointwise [rank]
  rw [fold_add]
  rfl

theorem word_inj : ∀ a b : Fin 8, BitVec.ofNat 32 a.val = BitVec.ofNat 32 b.val ↔ a = b := by decide

theorem sum_range_list (f : ℕ → ℕ) (n : ℕ) : ((List.range n).map f).sum = ∑ i ∈ Finset.range n, f i := rfl

section
variable (X : FVec Ideal S65536x1024 .f32) (W : FVec Ideal S1024x8 .f32)

theorem chosen_top (t : Fin 65536) (i : Fin 2) (e : Fin 8) :
    chosen (top X W).2 (ix3 t i e) = if ![place₁ X W t, place₂ X W t] i = e then 1#32 else 0#32 := by
  rw [chosen_eq, top_place]
  simp only [word_inj]

theorem count_top (t : Fin 65536) (e : Fin 8) : count (top X W).2 (ix2 t e) = BitVec.ofNat 32 (goes X W t.val e.val) := by
  have hne : place₂ X W t ≠ place₁ X W t := (isTop (scores X W t)).ne
  rw [count_eq, chosen_top, chosen_top]
  unfold goes
  rw [dif_pos t.isLt]
  simp only [← Fin.ext_iff, Fin.eta]
  show (if place₁ X W t = e then 1#32 else 0#32) + (if place₂ X W t = e then 1#32 else 0#32) = _
  by_cases h₁ : place₁ X W t = e
  · have h₂ : ¬ place₂ X W t = e := fun h => hne (h.trans h₁.symm)
    rw [if_pos h₁, if_neg h₂, if_pos (Or.inl h₁.symm)]
    rfl
  · by_cases h₂ : place₂ X W t = e
    · rw [if_neg h₁, if_pos h₂, if_pos (Or.inr h₂.symm)]
      rfl
    · rw [if_neg h₁, if_neg h₂, if_neg (fun h => h.elim (fun h => h₁ h.symm) fun h => h₂ h.symm)]
      rfl

theorem prefixes_top (t : Fin 65536) (e : Fin 8) : prefixes (top X W).2 (ix2 t e) = BitVec.ofNat 32 (before X W (t.val + 1) e.val) := by
  have hi : ∀ (t : Fin 65536) (e : Fin 8), (ix2 t e : S65536x8.Idx) = ValueIdx.ix2 t e := fun t e => by
    funext z
    match z with
    | ⟨0, _⟩ => rfl
    | ⟨1, _⟩ => rfl
  unfold prefixes before
  rw [hi, ← sum_range_list]
  exact Routing.cumsum_rows (by decide) (count (top X W).2) (goes X W) (fun i c => (congrArg _ (hi i c).symm).trans (count_top X W i c)) _ rfl _ _ t e

theorem rank_top (t : Fin 65536) (i : Fin 2) :
    rank (top X W).2 (ix2 t i) = BitVec.ofNat 32 (before X W t.val (![place₁ X W t, place₂ X W t] i).val) := by
  have h : ∀ e : Fin 8, prefixes (top X W).2 (ix2 t e) - count (top X W).2 (ix2 t e) = BitVec.ofNat 32 (before X W t.val e.val) := fun e => by
    rw [prefixes_top, count_top, before, Finset.sum_range_succ, BitVec.ofNat_add]
    exact add_sub_cancel_right _ _
  rw [rank_eq]
  simp only [h, chosen_top, ite_mul]
  rw [Finset.sum_eq_single (![place₁ X W t, place₂ X W t] i) (fun e _ he => by rw [if_neg he.symm]; exact zero_mul _)
    (fun h => absurd (Finset.mem_univ _) h), if_pos rfl]
  exact one_mul _

theorem ref_words : wideWords (top X W).2 = outWords X W := by
  funext j
  obtain ⟨t, l, rfl⟩ : ∃ (t : Fin 65536) (l : Fin 128), j = ix2 t l := ⟨j 0, j 1, by funext z; match z with | ⟨0, _⟩ => rfl | ⟨1, _⟩ => rfl⟩
  show _ = words X W t l.val
  pointwise [wideWords]
  unfold words
  have hl : l = 0 ∨ l = 1 ∨ l = 2 ∨ l = 3 ∨ 4 ≤ l.val := by omega
  rcases hl with rfl | rfl | rfl | rfl | h
  · rw [dif_pos (by decide), dif_pos (by decide)]
    exact top_place X W t 0
  · rw [dif_pos (by decide), dif_pos (by decide)]
    exact top_place X W t 1
  · rw [dif_pos (by decide), dif_neg (by decide)]
    exact rank_top X W t 0
  · rw [dif_pos (by decide), dif_neg (by decide)]
    exact rank_top X W t 1
  · rw [dif_neg (by omega), entry, if_neg (by omega), if_neg (by omega), if_neg (by omega), if_neg (by omega)]

theorem totals_top (e : Fin 8) : totals (top X W).2 (ix1 e) = BitVec.ofNat 32 (before X W 65536 e.val) := by
  pointwise [totals]
  rw [fold_add]
  unfold before
  rw [← sum_range_list, Routing.ofNat_sum_range, ← Fin.sum_univ_eq_sum_range (fun i => BitVec.ofNat 32 (goes X W i e.val)) 65536]
  exact Finset.sum_congr rfl fun t _ => count_top X W t e

theorem ref_counts : wideCounts (top X W).2 = outCounts X W := by
  funext j
  obtain ⟨r, l, rfl⟩ : ∃ (r : Fin 8) (l : Fin 128), j = ix2 r l := ⟨j 0, j 1, by funext z; match z with | ⟨0, _⟩ => rfl | ⟨1, _⟩ => rfl⟩
  show _ = (((before X W 65536 l.val : ℕ) : ℝ) : EReal)
  have small : ∀ n : ℕ, n ≤ 65536 → (((BitVec.ofNat 32 n).toInt : ℝ) : EReal) = ((n : ℝ) : EReal) := fun n hn => by
    rw [toInt_ofNat n (by omega)]
    norm_cast
  pointwise [wideCounts]
  by_cases h : l.val < 8
  · rw [dif_pos (by omega)]
    exact (congrArg (fun w : BitVec 32 => ((w.toInt : ℝ) : EReal)) (totals_top X W ⟨l.val, h⟩)).trans (small _ (before_le X W _ _))
  · rw [dif_neg (by omega), before_past X W _ _ (by omega)]
    exact small 0 (by omega)

/-- Each score's exponential, relative to the greater. -/
theorem shifted_eq (T : FVec Ideal S65536x2 .f32) (t : Fin 65536) (i : Fin 2) (h : T (ix2 t 1) ≤ T (ix2 t 0)) :
    shifted T (ix2 t i) = Ideal.exp (T (ix2 t i) - T (ix2 t 0)) := by
  pointwise [shifted]
  rw [f32_bot, max_eq_right bot_le, fold_max_eq Finset.univ (fun x => T (ix2 t x)) (T (ix2 t 0)) (fun l _ => ?_) ⟨0, Finset.mem_univ _, rfl⟩]
  match l with
  | 0 => exact le_rfl
  | 1 => exact h

theorem ref_gates (hf : ∀ t e, ∃ a : ℝ, scores X W t e = (a : EReal)) : wideGates (top X W).1 = outGates X W := by
  funext j
  obtain ⟨t, l, rfl⟩ : ∃ (t : Fin 65536) (l : Fin 128), j = ix2 t l := ⟨j 0, j 1, by funext z; match z with | ⟨0, _⟩ => rfl | ⟨1, _⟩ => rfl⟩
  show _ = gate (scores X W t (place₁ X W t)) (scores X W t (place₂ X W t)) l.val
  have e₀ : (top X W).1 (ix2 t 0) = scores X W t (place₁ X W t) := top_value X W t 0
  have e₁ : (top X W).1 (ix2 t 1) = scores X W t (place₂ X W t) := top_value X W t 1
  have hle : (top X W).1 (ix2 t 1) ≤ (top X W).1 (ix2 t 0) := by
    rw [e₀, e₁]
    exact (isTop (scores X W t)).le _
  have s₀ : shifted (top X W).1 (ix2 t 0) = 1 := by
    obtain ⟨a, ha⟩ := hf t (place₁ X W t)
    rw [shifted_eq _ t 0 hle, e₀, ha, ← EReal.coe_sub, sub_self]
    exact (show Ideal.exp ((0 : ℝ) : EReal) = ((Real.exp 0 : ℝ) : EReal) from rfl).trans (by simp)
  have s₁ : shifted (top X W).1 (ix2 t 1) = Ideal.exp (scores X W t (place₂ X W t) - scores X W t (place₁ X W t)) := by
    rw [shifted_eq _ t 1 hle, e₀, e₁]
  pointwise [wideGates]
  rw [Fin.sum_univ_two, s₀, s₁]
  unfold gate
  have hl : l = 0 ∨ l = 1 ∨ 2 ≤ l.val := by omega
  rcases hl with rfl | rfl | h
  · rw [dif_pos (by decide), if_pos (show (0 : Fin 128).val = 0 from rfl)]
    exact congrArg (Ideal.div · _) s₀
  · rw [dif_pos (by decide), if_neg (by decide), if_pos (show (1 : Fin 128).val = 1 from rfl)]
    exact congrArg (Ideal.div · _) s₁
  · rw [dif_neg (by omega), if_neg (by omega), if_neg (by omega)]
    show (((0#32 : BitVec 32).toInt : ℝ) : EReal) = 0
    simp

end

end Cert.Route

end
-- ==== Proof.Route.Pre.lean ====
/- What the router's precondition says: every entry of the tokens and of the weights is a real number. -/
module

public import proofs.«01_k».proof.Proof.Route.Model
public import proofs.«01_k».proof.Proof.Gen.Pre_finite_scores
public import Idealize.ShloMosaic.Lib.StableHlo.Predicate
public import Idealize.ShloMosaic.Lib.ReduceAll

@[expose] public section

noncomputable section

namespace Cert.Route

open Idealize.ShloMosaic

/-- A number whose size is below the infinite constant is real. -/
theorem real_of_lt (a : EReal) (h : Ideal.cmp .olt (max a (-a)) (Ideal.ofBits .f32 0x7F800000#32) = 1#1) : ∃ r : ℝ, a = (r : EReal) := by
  have ht : Ideal.ofBits .f32 0x7F800000#32 = ⊤ := by simp [Ideal.ofBits, Ideal.ieee]
  rw [ht] at h
  have h : max a (-a) < ⊤ := of_decide_eq_true ((StableHlo.Predicate.ofBool_eq_one_iff _).1 h)
  induction a with
  | bot => exact absurd h (by simp)
  | top => exact absurd h (by simp)
  | coe r => exact ⟨r, rfl⟩

open Cert.Pre_finite_scores in
theorem real_of_pre (x : FVec Ideal S65536x1024 .f32) (w : FVec Ideal S1024x8 .f32)
    (h : Cert.Pre_finite_scores.fn (F := Ideal) x w = fun _ => 1#1) :
    (∀ i, ∃ r : ℝ, x i = (r : EReal)) ∧ ∀ i, ∃ r : ℝ, w i = (r : EReal) := by
  have h := congrFun h (fun a => a.elim0)
  unfold Cert.Pre_finite_scores.fn at h
  obtain ⟨ha, hb⟩ := IntOp.andi_eq_one.1 h
  haveI : Subsingleton S_.Idx := ⟨fun a b => funext fun i => i.elim0⟩
  exact ⟨fun i => real_of_lt _ (Host.reduce_andi_all _ _ _ _ _ ha i), fun i => real_of_lt _ (Host.reduce_andi_all _ _ _ _ _ hb i)⟩

end Cert.Route

end
-- ==== Proof.Route.Claims.lean ====
/- The claims about the router. -/
module

public import proofs.«01_k».proof.Defs
public import proofs.«01_k».proof.Proof.Route.Value
public import proofs.«01_k».proof.Proof.Route.Ref
public import proofs.«01_k».proof.Proof.Route.Pre
public import proofs.«01_k».proof.Proof.Gen.Kernel5.Frame
public import proofs.«01_k».proof.Proof.Gen.Reference5Ideal.Run

@[expose] public section

set_option maxRecDepth 16384

noncomputable section

namespace Cert.Route

open Idealize.ShloMosaic Idealize.ShloMosaic.TcCoe Idealize.SL.Sem

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ =>
  Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems rfl r.2⟩)
    (Cert.Reference5Ideal.Value.run (F := Ideal) m ρ)

theorem frame_ideal_finite : Cert.quiescent_Kernel5Ideal_pre_finite_scores (hKernel5Ideal := Cert.Kernel5Ideal.Gen.facts)
    (hPre_finite_scores := Cert.Pre_finite_scores.Gen.facts) := fun m ρ _ => frame_ideal m ρ trivial

theorem frame_reference_finite : Cert.quiescent_Reference5Ideal_pre_finite_scores (hReference5Ideal := Cert.Reference5Ideal.Gen.facts)
    (hPre_finite_scores := Cert.Pre_finite_scores.Gen.facts) := fun m ρ _ => frame_reference m ρ trivial

/-- The reference leaves the words and the gates of every token, and the counts. -/
theorem reference_run (m : (ℓ : Loc Cert.Reference5Ideal.nD Cert.Reference5Ideal.τ Cert.Reference5Ideal.sig) → Buf (Elt Ideal) ℓ)
    (g : Dev Cert.Reference5Ideal.nD → PrngReg) (x : FVec Ideal Cert.Reference5Ideal.S65536x1024 .f32) (w : FVec Ideal Cert.Reference5Ideal.S1024x8 .f32)
    (hx : ∀ c : Dev Cert.Reference5Ideal.nD, m ((c.tc : Thread Cert.Reference5Ideal.nD Cert.Reference5Ideal.τ).loc Cert.Reference5Ideal.main_arg0) = x)
    (hw : ∀ c : Dev Cert.Reference5Ideal.nD, m ((c.tc : Thread Cert.Reference5Ideal.nD Cert.Reference5Ideal.τ).loc Cert.Reference5Ideal.main_arg1) = w)
    (real : ∀ t e, ∃ a : ℝ, scores x w t e = (a : EReal)) :
    θ_run (Cert.Reference5Ideal.defs (F := Ideal)) (onTc (τ := Cert.Reference5Ideal.τ) (Cert.Reference5Ideal.main (F := Ideal))) ⟨m, fun _ => 0, g⟩
      fun r => ∀ c : Dev Cert.Reference5Ideal.nD,
        r.2.mem ((c.tc : Thread Cert.Reference5Ideal.nD Cert.Reference5Ideal.τ).loc Cert.Reference5Ideal.main_v26) = outWords x w
        ∧ r.2.mem ((c.tc : Thread Cert.Reference5Ideal.nD Cert.Reference5Ideal.τ).loc Cert.Reference5Ideal.main_v27) = outGates x w
        ∧ r.2.mem ((c.tc : Thread Cert.Reference5Ideal.nD Cert.Reference5Ideal.τ).loc Cert.Reference5Ideal.main_v24) = outCounts x w
        ∧ r.2.mem ((c.tc : Thread Cert.Reference5Ideal.nD Cert.Reference5Ideal.τ).loc Cert.Reference5Ideal.main_arg0)
          = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1)
          = m ((c.tc : Thread Cert.Reference5Ideal.nD Cert.Reference5Ideal.τ).loc Cert.Reference5Ideal.main_arg1) := by
  refine (θ_run Cert.Reference5Ideal.defs _ _).mono ?_ (Cert.Reference5Ideal.Value.run (F := Ideal) m g)
  intro r h c
  refine ⟨(h c).1.trans ?_, (h c).2.1.trans ?_, (h c).2.2.1.trans ?_, (h c).2.2.2⟩
  · rw [hx c, hw c]
    exact ref_words x w
  · rw [hx c, hw c]
    exact ref_gates x w real
  · rw [hx c, hw c]
    exact ref_counts x w

/-- Both programs leave the words and the gates of every token, and the counts, of finite tokens and weights. -/
theorem algebraic : Cert.algebraic_Kernel5Ideal_Reference5Ideal_pre_finite_scores (hKernel5Ideal := Cert.Kernel5Ideal.Gen.facts)
    (hReference5Ideal := Cert.Reference5Ideal.Gen.facts) (hPre_finite_scores := Cert.Pre_finite_scores.Gen.facts) := by
  intro m g m' g' hpre hargs
  have real : ∀ (c : Dev Cert.Kernel5Ideal.nD) t e, ∃ a : ℝ, scores (X m c) (W m c) t e = (a : EReal) := fun c =>
    scores_finite _ _ (real_of_pre _ _ (hpre c)).1 (real_of_pre _ _ (hpre c)).2
  have hf : ∀ (c : Dev Cert.Kernel5Ideal.nD) t e, scores (X m c) (W m c) t e ≠ ⊥ := fun c t e => by
    obtain ⟨a, ha⟩ := real c t e
    rw [ha]
    exact EReal.coe_ne_bot a
  refine ⟨fun c => outWords (X m c) (W m c), fun c => outGates (X m c) (W m c), fun c => outCounts (X m c) (W m c),
    (θ_run Cert.Kernel5Ideal.defs _ _).mono (fun r h c => ⟨(h c).1.trans (final_words m c (hf c)), (h c).2.1.trans (final_gates m c (hf c)),
      (h c).2.2.1.trans (final_counts m c (hf c)), (h c).2.2.2⟩)
    (Cert.Kernel5Ideal.Value.run_blocks (F := Ideal) m g), ?_⟩
  have hc : ∀ c : Dev Cert.Kernel5Ideal.nD, c = 0 := fun c => Subsingleton.elim _ _
  refine (θ_run Cert.Reference5Ideal.defs _ _).mono (fun r h c => ?_) (reference_run m' g' (X m 0) (W m 0)
    (fun c => (hargs c).1.trans (by rw [hc c])) (fun c => (hargs c).2.trans (by rw [hc c])) (real 0))
  obtain rfl := hc c
  exact h 0

end Cert.Route

end
-- ==== Proof.Rope.Freq.lean ====
/- The lanes' frequencies as the kernel's host code lays them out: the four frequencies, each at the lanes whose number within a group of 32 is below eight and leaves it on division by four. -/
module

public import proofs.«01_k».proof.Proof.Gen.Kernel6Ideal.Frame
public import Idealize.ShloMosaic.Lib.Pipeline.ValueKit
public import Idealize.ShloMosaic.Lib.Pointwise
public import Idealize.ShloMosaic.Lib.Routing.OpsSet

@[expose] public section

set_option maxRecDepth 16384

noncomputable section

namespace Cert.Rope

open Cert.Kernel6Ideal Cert.Kernel6Ideal.Gen
open Idealize.ShloMosaic Idealize.ShloMosaic.TcCoe Idealize.SL.Sem

/-- The four frequencies: the base to the powers −0/8, −2/8, −4/8, −6/8. -/
def frequencies : FVec Ideal S4 .f32 :=
  Host.powf (broadcastInDim S4 ![] bcast_S_S4 (constant S_ .f32 0x48F42400#32))
    (Host.divf (Host.negf (addf (broadcastInDim S4 ![] bcast_S_S4 (constant S_ .f32 0x00000000#32))
      (mulf (broadcastInDim S4 ![] bcast_S_S4 (constant S_ .f32 0x40000000#32)) (sitofp .f32 (iotaInDim S4 32 0)))))
      (broadcastInDim S4 ![] bcast_S_S4 (constant S_ .f32 0x41000000#32)))

/-- The divisor of a remainder, one in place of zero; the remainder with the divisor's sign. -/
def divisor (n : IVec S_ 32) : IVec S_ 32 := select (cmpi .eq n (constantI S_ 32 0#32)) (constantI S_ 32 1#32) n
def signed (x : IVec S128 32) (n : IVec S_ 32) : IVec S128 32 := Host.remsi x (broadcastInDim S128 ![] bcast_S_S128 (divisor n))
def remainder (x : IVec S128 32) (n : IVec S_ 32) : IVec S128 32 :=
  select (andi (cmpi .ne (cmpi .slt (signed x n) (broadcastInDim S128 ![] bcast_S_S128 (constantI S_ 32 0#32)))
      (broadcastInDim S128 ![] bcast_S_S128 (cmpi .slt (divisor n) (constantI S_ 32 0#32))))
      (cmpi .ne (signed x n) (broadcastInDim S128 ![] bcast_S_S128 (constantI S_ 32 0#32))))
    (addi (signed x n) (broadcastInDim S128 ![] bcast_S_S128 (divisor n))) (signed x n)

/-- Each lane's number within its group of 32, and the place of its frequency among the four. -/
def within : IVec S128 32 := remainder (iotaInDim S128 32 0) (constantI S_ 32 32#32)
def fourth : IVec S128 32 := remainder within (constantI S_ 32 4#32)
def place : IVec S128 32 :=
  select (cmpi .slt fourth (broadcastInDim S128 ![] bcast_S_S128 (constantI S_ 32 0#32)))
    (addi fourth (broadcastInDim S128 ![] bcast_S_S128 (constantI S_ 32 4#32))) fourth

def laid : FVec Ideal S1x128 .f32 :=
  broadcastInDim S1x128 ![1] bcast_S128_S1x128_1 (select (cmpi .slt within (broadcastInDim S128 ![] bcast_S_S128 (constantI S_ 32 8#32)))
    (Host.gather gather_S4_S128x1_S128_n_0_n_n_0_1_1 frequencies (broadcastInDim S128x1 ![0] bcast_S128_S128x1_0 place))
    (broadcastInDim S128 ![] bcast_S_S128 (constant S_ .f32 0x00000000#32)))

variable (m : (ℓ : Loc nD τ sig) → Buf (Elt Ideal) ℓ)

theorem V_laid (c : Dev nD) : V m c main_v23 = laid := by
  unfold V hostOps0 hostOps0_1 hostOps0_2 hostOps0_3 hostOps0_4 hostOps0_5 hostOps0_6
  simp only [List.flatten_cons, List.flatten_nil, List.append_nil, List.cons_append, List.nil_append]
  after_results_simp
  simp only [StableHlo.TRef.toBuf, StableHlo.TRef.ofBuf, cast_eq, id]
  unfold laid place fourth within remainder signed divisor frequencies
  with_reducible rfl

theorem V_positions (c : Dev nD) : V m c main_v24 = broadcastInDim S8x8192x1 ![0, 1] bcast_S8x8192_S8x8192x1_0_1 (m ((c : Thread nD τ).loc main_arg0)) := by
  unfold V hostOps0 hostOps0_1 hostOps0_2 hostOps0_3 hostOps0_4 hostOps0_5 hostOps0_6
  after_results_simp <;> rfl

theorem within_at : ∀ l : Fin 128, within (ix1 l) = BitVec.ofNat 32 (l.val % 32) := by decide +kernel
theorem place_at : ∀ l : Fin 128, place (ix1 l) = BitVec.ofNat 32 (l.val % 4) := by decide +kernel

end Cert.Rope

end
-- ==== Proof.Rope.Value.lean ====
/- The rotary tables: the kernel's three result arrays. -/
module

public import proofs.«01_k».proof.Proof.Rope.Freq

@[expose] public section

set_option maxRecDepth 16384

noncomputable section

namespace Cert.Rope

open Cert.Kernel6Ideal Cert.Kernel6Ideal.Gen
open Idealize.ShloMosaic Idealize.ShloMosaic.TcCoe Idealize.SL.Sem
open Idealize.ShloMosaic.Pipeline (Dat)

section
variable (P : IVec S8x8192 32)

/-- The angle of a token's position at one of the four frequencies. -/
def angle (b : Fin 8) (s : Fin 8192) (j : Fin 4) : Ideal .f32 := FloatOps.mulf (FloatOps.sitofp .f32 (P (ix2 b s))) (frequencies (ix1 j))

/-- The place of a lane's frequency. -/
def quarter (l : Fin 128) : Fin 4 := ⟨l.val % 4, Nat.mod_lt _ (by decide)⟩

/-- The three tables: in each group of 32 lanes the cosines in the first eight and ones after them; the sines with their
    signs changed in the first four and zeros after them; the sines in the next four and zeros elsewhere. -/
def cosAt (b : Fin 8) (s : Fin 8192) (l : Fin 128) : Ideal .f32 :=
  if l.val % 32 < 8 then FloatOps.cos (angle P b s (quarter l)) else Scalar.ofBits .f32 0x3F800000#32
def lowAt (b : Fin 8) (s : Fin 8192) (l : Fin 128) : Ideal .f32 :=
  if l.val % 32 < 4 then FloatOps.negf (FloatOps.sin (angle P b s (quarter l))) else Scalar.ofBits .f32 0x00000000#32
def highAt (b : Fin 8) (s : Fin 8192) (l : Fin 128) : Ideal .f32 :=
  if 4 ≤ l.val % 32 ∧ l.val % 32 < 8 then FloatOps.sin (angle P b s (quarter l)) else Scalar.ofBits .f32 0x00000000#32
def table (f : Fin 8 → Fin 8192 → Fin 128 → Ideal .f32) : FVec Ideal S8x8192x128 .f32 := fun i => f (i 0) (i 1) (i 2)

end

/-! ## The lanes -/

theorem laid_at (l : Fin 128) (h : l.val % 32 < 8) : laid (ix2 0 l) = frequencies (ix1 (quarter l)) := by
  have hs : laid (ix2 0 l) = Scalar.select (IntOp.cmpi .slt (within (ix1 l)) 8#32)
      (Host.gather gather_S4_S128x1_S128_n_0_n_n_0_1_1 frequencies (broadcastInDim S128x1 ![0] bcast_S128_S128x1_0 place) (ix1 l))
      (Scalar.ofBits .f32 0x00000000#32) := by
    unfold laid
    rfl
  have hc : IntOp.cmpi .slt (BitVec.ofNat 32 (l.val % 32)) 8#32 = 1#1 := by
    have all : ∀ l : Fin 128, l.val % 32 < 8 → IntOp.cmpi .slt (BitVec.ofNat 32 (l.val % 32)) 8#32 = 1#1 := by decide +kernel
    exact all l h
  rw [hs, within_at, hc]
  refine (Routing.gather_take1 gather_S4_S128x1_S128_n_0_n_n_0_1_1 rfl rfl rfl rfl frequencies _ l (quarter l) ?_ (by decide))
  exact place_at l

/-- A lane's number within its group of 32, and its comparisons, as the body computes them. -/
theorem pay3_at (r : Fin 512) (l : Fin 128) : k0_pay3 (ix2 r l) = BitVec.ofNat 32 (l.val % 32) := by
  have h : ∀ l : Fin 128, IntOp.andi (BitVec.ofNat 32 l.val) 31#32 = BitVec.ofNat 32 (l.val % 32) := by decide +kernel
  pointwise [k0_pay3]
  exact h l

theorem lt_at (l : Fin 128) {α : Type} (n : ℕ) (hn : n = 4 ∨ n = 8) (u v : α) :
    Scalar.select (IntOp.cmpi .slt (BitVec.ofNat 32 (l.val % 32)) (BitVec.ofNat 32 n)) u v = if l.val % 32 < n then u else v := by
  have h4 : ∀ l : Fin 128, IntOp.cmpi .slt (BitVec.ofNat 32 (l.val % 32)) 4#32 = BitVec.ofBool (decide (l.val % 32 < 4)) := by decide +kernel
  have h8 : ∀ l : Fin 128, IntOp.cmpi .slt (BitVec.ofNat 32 (l.val % 32)) 8#32 = BitVec.ofBool (decide (l.val % 32 < 8)) := by decide +kernel
  rcases hn with rfl | rfl
  · rw [h4]
    by_cases h : l.val % 32 < 4 <;> simp [h, Scalar.select]
  · rw [h8]
    by_cases h : l.val % 32 < 8 <;> simp [h, Scalar.select]

theorem between_at (l : Fin 128) {α : Type} (u v : α) :
    Scalar.select (IntOp.andi (IntOp.cmpi .sge (BitVec.ofNat 32 (l.val % 32)) 4#32) (IntOp.cmpi .slt (BitVec.ofNat 32 (l.val % 32)) 8#32)) u v
      = if 4 ≤ l.val % 32 ∧ l.val % 32 < 8 then u else v := by
  have h : ∀ l : Fin 128, IntOp.andi (IntOp.cmpi .sge (BitVec.ofNat 32 (l.val % 32)) 4#32) (IntOp.cmpi .slt (BitVec.ofNat 32 (l.val % 32)) 8#32)
      = BitVec.ofBool (decide (4 ≤ l.val % 32 ∧ l.val % 32 < 8)) := by decide +kernel
  rw [h]
  by_cases h : 4 ≤ l.val % 32 ∧ l.val % 32 < 8 <;> simp [h, Scalar.select]

/-! ## The body's values -/

section
variable (x : Vec Ideal S1x512x1 .i32) (f : Vec Ideal S1x128 .f32) (r : Fin 512) (l : Fin 128)

/-- The angle of a row at a lane. -/
def turn : Ideal .f32 := FloatOps.mulf (FloatOps.sitofp .f32 (x (ix3 0 r 0))) (f (ix2 0 l))

theorem pay5_at : k0_pay5 x f (ix3 0 r l) = if l.val % 32 < 8 then FloatOps.cos (turn x f r l) else Scalar.ofBits .f32 0x3F800000#32 := by
  rw [← lt_at l 8 (Or.inr rfl), ← pay3_at r l]
  pointwise [k0_pay5, k0_pay2]
  rfl

theorem pay6_at : k0_pay6 x f (ix3 0 r l) = if l.val % 32 < 4 then FloatOps.negf (FloatOps.sin (turn x f r l)) else Scalar.ofBits .f32 0x00000000#32 := by
  rw [← lt_at l 4 (Or.inl rfl), ← pay3_at r l]
  pointwise [k0_pay6, k0_pay4, k0_pay2]
  rw [zero_sub]
  rfl

theorem pay7_at : k0_pay1 (k0_pay7 x f) (ix3 0 r l)
    = if 4 ≤ l.val % 32 ∧ l.val % 32 < 8 then FloatOps.sin (turn x f r l) else Scalar.ofBits .f32 0x00000000#32 := by
  rw [← between_at l, ← pay3_at r l]
  pointwise [k0_pay1, k0_pay7, k0_pay4, k0_pay2]
  rfl

end

/-! ## The tiles -/

theorem idx : ∀ t : Fin cfg0.N, win0_0.index t = ![t.val / 16, t.val % 16, 0] ∧ win0_1.index t = ![0, 0]
    ∧ win0_2.index t = ![t.val / 16, t.val % 16, 0] ∧ win0_3.index t = ![t.val / 16, t.val % 16, 0]
    ∧ win0_4.index t = ![t.val / 16, t.val % 16, 0] :=
  (by decide +kernel : ∀ t : Fin grid0.N, _)

variable (m : (ℓ : Loc nD τ sig) → Buf (Elt Ideal) ℓ) (c : Dev nD)

abbrev X : IVec S8x8192 32 := m ((c : Thread nD τ).loc main_arg0)

/-- The sequence of grid point `t`, and the place in it of the point's row `r`. -/
abbrev seq (t : Fin cfg0.N) : Fin 8 := ⟨t.val / 16, by have := t.isLt; have := (show cfg0.N = 128 from N_0); omega⟩
abbrev spot (t : Fin cfg0.N) (r : Fin 512) : Fin 8192 := ⟨512 * (t.val % 16) + r.val, by omega⟩

/-- The tiles a point reads of any positions and of any frequencies. -/
theorem block_positions (A : IVec S8x8192x1 32) (t : Fin cfg0.N) (r : Fin 512) :
    View.ld (((cfg0.win 0).blk t).view.read (Elt Ideal) A) r0_0 (ix3 0 r 0) = A (ix3 (seq t) (spot t r) 0) := by
  change A (((cfg0.win 0).blk t).view.emb (r0_0.idx (ix3 0 r 0))) = _
  have e : (r0_0.idx (ix3 0 r 0) 1).val = r.val := (Nat.zero_add _).trans (Nat.one_mul _)
  blk_point [idx t]

theorem block_laid (A : FVec Ideal S1x128 .f32) (t : Fin cfg0.N) (l : Fin 128) :
    View.ld (((cfg0.win 1).blk t).view.read (Elt Ideal) A) r0_1 (ix2 0 l) = A (ix2 0 l) := by
  change A (((cfg0.win 1).blk t).view.emb (r0_1.idx (ix2 0 l))) = _
  have e : (r0_1.idx (ix2 0 l) 1).val = l.val := (Nat.zero_add _).trans (Nat.one_mul _)
  blk_point [idx t]

theorem position (t : Fin cfg0.N) (r : Fin 512) : View.ld (iblk m c 0 t) r0_0 (ix3 0 r 0) = X m c (ix2 (seq t) (spot t r)) := by
  have e : broadcastInDim S8x8192x1 ![0, 1] bcast_S8x8192_S8x8192x1_0_1 (X m c) (ix3 (seq t) (spot t r) 0)
      = X m c (ix2 (seq t) (spot t r)) := by
    pointwise []
  exact (block_positions (V m c main_v24) t r).trans ((congrFun (V_positions m c) _).trans e)

theorem frequency (t : Fin cfg0.N) (l : Fin 128) (h : l.val % 32 < 8) :
    View.ld (iblk m c 1 t) r0_1 (ix2 0 l) = frequencies (ix1 (quarter l)) :=
  (block_laid (V m c main_v23) t l).trans ((congrFun (V_laid m c) _).trans (laid_at l h))

theorem turn_eq (t : Fin cfg0.N) (r : Fin 512) (l : Fin 128) (h : l.val % 32 < 8) :
    turn (View.ld (iblk m c 0 t) r0_0) (View.ld (iblk m c 1 t) r0_1) r l = angle (X m c) (seq t) (spot t r) (quarter l) := by
  unfold turn angle
  rw [position, frequency m c t l h]

theorem tile_cos (t : Fin cfg0.N) (r : Fin 512) (l : Fin 128) :
    k0_pay5 (View.ld (iblk m c 0 t) r0_0) (View.ld (iblk m c 1 t) r0_1) (ix3 0 r l) = cosAt (X m c) (seq t) (spot t r) l := by
  rw [pay5_at]
  unfold cosAt
  split <;> rename_i h
  · rw [turn_eq m c t r l h]
  · rfl

theorem tile_low (t : Fin cfg0.N) (r : Fin 512) (l : Fin 128) :
    k0_pay6 (View.ld (iblk m c 0 t) r0_0) (View.ld (iblk m c 1 t) r0_1) (ix3 0 r l) = lowAt (X m c) (seq t) (spot t r) l := by
  rw [pay6_at]
  unfold lowAt
  split <;> rename_i h
  · rw [turn_eq m c t r l (by omega)]
  · rfl

theorem tile_high (t : Fin cfg0.N) (r : Fin 512) (l : Fin 128) :
    k0_pay1 (k0_pay7 (View.ld (iblk m c 0 t) r0_0) (View.ld (iblk m c 1 t) r0_1)) (ix3 0 r l) = highAt (X m c) (seq t) (spot t r) l := by
  rw [pay7_at]
  unfold highAt
  split <;> rename_i h
  · rw [turn_eq m c t r l h.2]
  · rfl

/-- An index of a tile is a row and a lane. -/
theorem tile_index (x : S1x512x128.Idx) : x = ix3 0 (x 1) (x 2) := by
  funext a
  match a with
  | ⟨0, _⟩ => exact Subsingleton.elim (α := Fin 1) _ _
  | ⟨1, _⟩ => rfl
  | ⟨2, _⟩ => rfl

/-- The place of a tile's index in each of the three arrays. -/
theorem kept_at (f : Fin 8 → Fin 8192 → Fin 128 → Ideal .f32) (t : Fin cfg0.N) (y : S1x512x128.Idx) :
    f (seq t) (spot t (y 1)) (y 2) = table f (((cfg0.win 2).blk t).view.emb y)
    ∧ f (seq t) (spot t (y 1)) (y 2) = table f (((cfg0.win 3).blk t).view.emb y)
    ∧ f (seq t) (spot t (y 1)) (y 2) = table f (((cfg0.win 4).blk t).view.emb y) := by
  change table f (ix3 (seq t) (spot t (y 1)) (y 2)) = _ ∧ table f (ix3 (seq t) (spot t (y 1)) (y 2)) = _
    ∧ table f (ix3 (seq t) (spot t (y 1)) (y 2)) = _
  refine ⟨?_, ?_, ?_⟩
  all_goals blk_point [idx t]

theorem point_cos (t : Fin cfg0.N) (y : S1x512x128.Idx) :
    out0_2 (iblk m c 0 t) (iblk m c 1 t) y = table (cosAt (X m c)) (((cfg0.win 2).blk t).view.emb y) := by
  refine Eq.trans ?_ (kept_at _ t y).1
  canon_tiles x h
  refine (congrArg _ (tile_index x)).trans ((tile_cos m c t (x 1) (x 2)).trans ?_)
  rw [show y 1 = x 1 from Fin.ext h1, show y 2 = x 2 from Fin.ext h2]

theorem point_low (t : Fin cfg0.N) (y : S1x512x128.Idx) :
    out0_3 (iblk m c 0 t) (iblk m c 1 t) y = table (lowAt (X m c)) (((cfg0.win 3).blk t).view.emb y) := by
  refine Eq.trans ?_ (kept_at _ t y).2.1
  canon_tiles x h
  refine (congrArg _ (tile_index x)).trans ((tile_low m c t (x 1) (x 2)).trans ?_)
  rw [show y 1 = x 1 from Fin.ext h1, show y 2 = x 2 from Fin.ext h2]

theorem point_high (t : Fin cfg0.N) (y : S1x512x128.Idx) :
    out0_4 (iblk m c 0 t) (iblk m c 1 t) y = table (highAt (X m c)) (((cfg0.win 4).blk t).view.emb y) := by
  refine Eq.trans ?_ (kept_at _ t y).2.2
  canon_tiles x h
  refine (congrArg _ (tile_index x)).trans ((tile_high m c t (x 1) (x 2)).trans ?_)
  rw [show y 1 = x 1 from Fin.ext h1, show y 2 = x 2 from Fin.ext h2]

theorem final_cos : (dats m 0 c).arrAt 2 cfg0.N = table (cosAt (X m c)) := by
  refine (dats m 0 c).arrAt_eq_of_covers 2 _ (by decide +kernel) fun t _ y => ?_
  blk_simp
  rw [after0_2]
  exact point_cos m c t y

theorem final_low : (dats m 0 c).arrAt 3 cfg0.N = table (lowAt (X m c)) := by
  refine (dats m 0 c).arrAt_eq_of_covers 3 _ (by decide +kernel) fun t _ y => ?_
  blk_simp
  rw [after0_3]
  exact point_low m c t y

theorem final_high : (dats m 0 c).arrAt 4 cfg0.N = table (highAt (X m c)) := by
  refine (dats m 0 c).arrAt_eq_of_covers 4 _ (by decide +kernel) fun t _ y => ?_
  blk_simp
  rw [after0_4]
  exact point_high m c t y

end Cert.Rope

end
-- ==== Proof.Rope.Ref.lean ====
/- The rotary tables: the reference's three results. -/
module

public import proofs.«01_k».proof.Proof.Rope.Value
public import proofs.«01_k».proof.Proof.Gen.Reference6Ideal.Run

@[expose] public section

set_option maxRecDepth 16384

noncomputable section

namespace Cert.Rope

open Cert.Reference6Ideal Cert.Reference6Ideal.Gen
open Idealize.ShloMosaic Idealize.ShloMosaic.TcCoe Idealize.SL.Sem

variable (P : IVec S8x8192 32)

/-- The angles of all positions at the four frequencies. -/
def angles : FVec Ideal S8x8192x4 .f32 :=
  mulf (broadcastInDim S8x8192x4 ![0, 1, 2] bcast_S8x8192x1_S8x8192x4_0_1_2
      (broadcastInDim S8x8192x1 ![0, 1] bcast_S8x8192_S8x8192x1_0_1 (sitofp .f32 P)))
    (broadcastInDim S8x8192x4 ![0, 1, 2] bcast_S1x1x4_S8x8192x4_0_1_2 (broadcastInDim S1x1x4 ![2] bcast_S4_S1x1x4_2 frequencies))

theorem angles_at (b : Fin 8) (s : Fin 8192) (j : Fin 4) : angles P (ix3 b s j) = angle P b s j := by
  pointwise [angles, angle]

/-- Four copies of 4 lanes of `p`, 4 lanes of `q` and 24 lanes of `r`. -/
def group (p q : FVec Ideal S8x8192x4 .f32) (r : FVec Ideal S8x8192x24 .f32) : FVec Ideal S8x8192x32 .f32 :=
  concatenate S8x8192x32 2 [⟨S8x8192x4, p⟩, ⟨S8x8192x4, q⟩, ⟨S8x8192x24, r⟩] concatenates_S8x8192x4_S8x8192x4_S8x8192x24_S8x8192x32_d2
def wide (p q : FVec Ideal S8x8192x4 .f32) (r : FVec Ideal S8x8192x24 .f32) : FVec Ideal S8x8192x128 .f32 :=
  concatenate S8x8192x128 2 [⟨S8x8192x32, group p q r⟩, ⟨S8x8192x32, group p q r⟩, ⟨S8x8192x32, group p q r⟩, ⟨S8x8192x32, group p q r⟩]
    concatenates_S8x8192x32_S8x8192x32_S8x8192x32_S8x8192x32_S8x8192x128_d2

theorem wide_at (p q : FVec Ideal S8x8192x4 .f32) (r : FVec Ideal S8x8192x24 .f32) (b : Fin 8) (s : Fin 8192) (l : Fin 128) :
    wide p q r (ix3 b s l) = group p q r (ix3 b s ⟨l.val % 32, Nat.mod_lt _ (by decide)⟩) := by
  have e (k : ℕ) (hk : k < 32) (h : k = l.val % 32) : group p q r (ix3 b s ⟨k, hk⟩) = group p q r (ix3 b s ⟨l.val % 32, Nat.mod_lt _ (by decide)⟩) := by
    subst h
    rfl
  pointwise [wide]
  split_ifs
  all_goals exact e _ _ (by omega)

theorem group_at (p q : FVec Ideal S8x8192x4 .f32) (r : FVec Ideal S8x8192x24 .f32) (b : Fin 8) (s : Fin 8192) (l : Fin 32) :
    group p q r (ix3 b s l) = if h : l.val < 4 then p (ix3 b s ⟨l.val, h⟩) else if h' : l.val < 8 then q (ix3 b s ⟨l.val - 4, by omega⟩)
      else r (ix3 b s ⟨l.val - 8, by omega⟩) := by
  pointwise [group]
  by_cases h : l.val < 4
  · rw [dif_pos h, dif_pos h]
  · rw [dif_neg h, dif_neg h]
    by_cases h' : l.val < 8
    · rw [dif_pos h', dif_pos (by omega)]
    · rw [dif_neg h', dif_neg (by omega)]
      exact congrArg r (congrArg (ix3 b s) (Fin.ext (Nat.sub_sub _ 4 4)))

/-- A table whose three parts are `u`, `v` and `w` at a lane. -/
theorem wide_eq (p q : FVec Ideal S8x8192x4 .f32) (r : FVec Ideal S8x8192x24 .f32) (f : Fin 8 → Fin 8192 → Fin 128 → Ideal .f32)
    (hp : ∀ b s (l : Fin 128), l.val % 32 < 4 → p (ix3 b s (quarter l)) = f b s l)
    (hq : ∀ b s (l : Fin 128), 4 ≤ l.val % 32 → l.val % 32 < 8 → q (ix3 b s (quarter l)) = f b s l)
    (hr : ∀ b s (l : Fin 128) k, 8 ≤ l.val % 32 → r (ix3 b s k) = f b s l) : wide p q r = table f := by
  funext i
  have hi : i = ix3 (i 0) (i 1) (i 2) := by
    funext a
    match a with
    | ⟨0, _⟩ => rfl
    | ⟨1, _⟩ => rfl
    | ⟨2, _⟩ => rfl
  have at_ix (b : Fin 8) (s : Fin 8192) (l : Fin 128) : wide p q r (ix3 b s l) = f b s l := by
    refine (wide_at p q r b s l).trans ((group_at p q r b s _).trans ?_)
    by_cases h : l.val % 32 < 4
    · rw [dif_pos h, ← hp b s l h]
      exact congrArg p (congrArg (ix3 b s) (Fin.ext (show l.val % 32 = l.val % 4 by omega)))
    · rw [dif_neg h]
      by_cases h' : l.val % 32 < 8
      · rw [dif_pos h', ← hq b s l (by omega) h']
        exact congrArg q (congrArg (ix3 b s) (Fin.ext (show l.val % 32 - 4 = l.val % 4 by omega)))
      · rw [dif_neg h']
        exact hr b s l _ (by omega)
  exact (congrArg _ hi).trans (at_ix (i 0) (i 1) (i 2))

/-- The constant arrays of the reference. -/
def none4 : FVec Ideal S8x8192x4 .f32 := broadcastInDim S8x8192x4 ![] bcast_S_S8x8192x4 (constant S_ .f32 0x00000000#32)
def none24 : FVec Ideal S8x8192x24 .f32 := broadcastInDim S8x8192x24 ![] bcast_S_S8x8192x24 (constant S_ .f32 0x00000000#32)
def ones24 : FVec Ideal S8x8192x24 .f32 := broadcastInDim S8x8192x24 ![] bcast_S_S8x8192x24 (constant S_ .f32 0x3F800000#32)

theorem none4_at (b : Fin 8) (s : Fin 8192) (j : Fin 4) : none4 (ix3 b s j) = Scalar.ofBits .f32 0x00000000#32 := rfl
theorem none24_at (b : Fin 8) (s : Fin 8192) (j : Fin 24) : none24 (ix3 b s j) = Scalar.ofBits .f32 0x00000000#32 := rfl
theorem ones24_at (b : Fin 8) (s : Fin 8192) (j : Fin 24) : ones24 (ix3 b s j) = Scalar.ofBits .f32 0x3F800000#32 := rfl

theorem cos_at (b : Fin 8) (s : Fin 8192) (j : Fin 4) : Host.cos (angles P) (ix3 b s j) = FloatOps.cos (angle P b s j) :=
  congrArg FloatOps.cos (angles_at P b s j)
theorem sin_at (b : Fin 8) (s : Fin 8192) (j : Fin 4) : Host.sin (angles P) (ix3 b s j) = FloatOps.sin (angle P b s j) :=
  congrArg FloatOps.sin (angles_at P b s j)

theorem wide_cos : wide (Host.cos (angles P)) (Host.cos (angles P)) ones24 = table (cosAt P) := by
  refine wide_eq _ _ _ _ (fun b s l h => ?_) (fun b s l h h' => ?_) (fun b s l k h => ?_)
  · rw [cos_at, cosAt, if_pos (by omega)]
  · rw [cos_at, cosAt, if_pos h']
  · rw [ones24_at, cosAt, if_neg (by omega)]

theorem wide_low : wide (Host.negf (Host.sin (angles P))) none4 none24 = table (lowAt P) := by
  refine wide_eq _ _ _ _ (fun b s l h => ?_) (fun b s l h h' => ?_) (fun b s l k h => ?_)
  · rw [lowAt, if_pos h]
    exact congrArg FloatOps.negf (sin_at P b s _)
  · rw [none4_at, lowAt, if_neg (by omega)]
  · rw [none24_at, lowAt, if_neg (by omega)]

theorem wide_high : wide none4 (Host.sin (angles P)) none24 = table (highAt P) := by
  refine wide_eq _ _ _ _ (fun b s l h => ?_) (fun b s l h h' => ?_) (fun b s l k h => ?_)
  · rw [none4_at, highAt, if_neg (by omega)]
  · rw [sin_at, highAt, if_pos ⟨h, h'⟩]
  · rw [none24_at, highAt, if_neg (by omega)]

variable (m : (ℓ : Loc nD τ sig) → Buf (Elt Ideal) ℓ) (c : Dev nD)

/-- The positions among the reference's arguments. -/
abbrev Y : IVec S8x8192 32 := m ((c.tc : Thread nD τ).loc main_arg0)

theorem ref_cos : Cert.Reference6Ideal.Value.res_main_v21 m c = table (cosAt (Y m c)) := by
  refine Eq.trans ?_ (wide_cos (Y m c))
  unfold Cert.Reference6Ideal.Value.res_main_v21 wide group angles ones24 frequencies
  with_reducible rfl

theorem ref_low : Cert.Reference6Ideal.Value.res_main_v25 m c = table (lowAt (Y m c)) := by
  refine Eq.trans ?_ (wide_low (Y m c))
  unfold Cert.Reference6Ideal.Value.res_main_v25 wide group angles none4 none24 frequencies
  with_reducible rfl

theorem ref_high : Cert.Reference6Ideal.Value.res_main_v28 m c = table (highAt (Y m c)) := by
  refine Eq.trans ?_ (wide_high (Y m c))
  unfold Cert.Reference6Ideal.Value.res_main_v28 wide group angles none4 none24 frequencies
  with_reducible rfl

end Cert.Rope

end
-- ==== Proof.Rope.Claims.lean ====
/- The claims about the rotary tables. -/
module

public import proofs.«01_k».proof.Defs
public import proofs.«01_k».proof.Proof.Rope.Value
public import proofs.«01_k».proof.Proof.Rope.Ref
public import proofs.«01_k».proof.Proof.Gen.Kernel6.Frame

@[expose] public section

set_option maxRecDepth 16384

noncomputable section

namespace Cert.Rope

open Idealize.ShloMosaic Idealize.ShloMosaic.TcCoe Idealize.SL.Sem

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ =>
  Cert.Kernel6Ideal.Gen.frame m ρ

theorem frame_reference : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems rfl r.2⟩)
    (Cert.Reference6Ideal.Value.run (F := Ideal) m ρ)

section
open Cert.Kernel6Ideal Cert.Kernel6Ideal.Gen

/-- The kernel leaves the three tables. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v25_0) = table (cosAt (X m c))
      ∧ r.2.mem ((c.tc : Thread nD τ).loc main_v25_1) = table (lowAt (X m c))
      ∧ r.2.mem ((c.tc : Thread nD τ).loc main_v25_2) = table (highAt (X m c))
      ∧ r.2.mem ((c.tc : Thread nD τ).loc main_arg0) = m ((c.tc : Thread nD τ).loc main_arg0) :=
  (θ_run defs _ _).mono (fun r h c => ⟨((h c).1 2).trans (final_cos m c), ((h c).1 3).trans (final_low m c),
    ((h c).1 4).trans (final_high m c),
    ((h c).2 main_arg0 (Pipeline.mem_restRefs_of main_arg0 (by decide) (by decide))).trans (V_main_arg0 m c)⟩) (run_main m g)

end

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => table (cosAt (X m c)), fun c => table (lowAt (X m c)), fun c => table (highAt (X m c)), kernel_run m g, ?_⟩
  refine (θ_run Cert.Reference6Ideal.defs _ _).mono (fun r h c => ?_) (Cert.Reference6Ideal.Value.run (F := Ideal) m' g')
  obtain rfl : c = (0 : Dev Cert.Kernel6Ideal.nD) := Subsingleton.elim _ _
  have e : Y m' 0 = X m 0 := hargs 0
  exact ⟨(h 0).1.trans ((ref_cos m' 0).trans (congrArg (fun P => table (cosAt P)) e)),
    (h 0).2.1.trans ((ref_low m' 0).trans (congrArg (fun P => table (lowAt P)) e)),
    (h 0).2.2.1.trans ((ref_high m' 0).trans (congrArg (fun P => table (highAt P)) e)), (h 0).2.2.2⟩

end Cert.Rope

end
-- ==== Proof.lean ====
module

public import proofs.«01_k».proof.Proof.Moe.Algebraic
public import proofs.«01_k».proof.Proof.Dense.Claims
public import proofs.«01_k».proof.Proof.Proj.Claims
public import proofs.«01_k».proof.Proof.Out.Claims
public import proofs.«01_k».proof.Proof.Route.Claims
public import proofs.«01_k».proof.Proof.Rope.Claims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_in_range.Gen.facts, Cert.Pre_finite_scores.Gen.facts,
  Cert.Moe.frame_kernel, Cert.Moe.frame_ideal, Cert.Moe.frame_reference,
  Cert.Dense.frame_kernel, Cert.Dense.frame_ideal, Cert.Dense.frame_reference,
  Cert.Proj.frame_kernel, Cert.Proj.frame_ideal, Cert.Proj.frame_reference,
  Cert.Out.frame_kernel, Cert.Out.frame_ideal, Cert.Out.frame_reference,
  Cert.Route.frame_kernel, Cert.Route.frame_ideal, Cert.Route.frame_ideal_finite, Cert.Route.frame_reference, Cert.Route.frame_reference_finite,
  Cert.Rope.frame_kernel, Cert.Rope.frame_ideal, Cert.Rope.frame_reference,
  trivial, Cert.Moe.algebraic, trivial, Cert.Dense.algebraic, trivial, Cert.Proj.algebraic, trivial, Cert.Out.algebraic,
  trivial, Cert.Route.algebraic, trivial, Cert.Rope.algebraic⟩

end Cert.Proof

end
